-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x256x3584 : Shape := ⟨3, ![24, 256, 3584]⟩
abbrev S3584x3584 : Shape := ⟨2, ![3584, 3584]⟩
abbrev S448x9728 : Shape := ⟨2, ![448, 9728]⟩
abbrev S9728 : Shape := ⟨1, ![9728]⟩
abbrev S1568x9728 : Shape := ⟨2, ![1568, 9728]⟩
abbrev S6144x3584 : Shape := ⟨2, ![6144, 3584]⟩
abbrev S6144x448 : Shape := ⟨2, ![6144, 448]⟩
abbrev S6144x3136 : Shape := ⟨2, ![6144, 3136]⟩
abbrev S6144x128 : Shape := ⟨2, ![6144, 128]⟩
abbrev S256x3584 : Shape := ⟨2, ![256, 3584]⟩
abbrev S256x448 : Shape := ⟨2, ![256, 448]⟩
abbrev S256x3136 : Shape := ⟨2, ![256, 3136]⟩
abbrev S256x128 : Shape := ⟨2, ![256, 128]⟩
abbrev S256 : Shape := ⟨1, ![256]⟩
abbrev S256x1 : Shape := ⟨2, ![256, 1]⟩
abbrev S1x9728 : Shape := ⟨2, ![1, 9728]⟩
abbrev S6144x9728 : Shape := ⟨2, ![6144, 9728]⟩
abbrev S2048x3584 : Shape := ⟨2, ![2048, 3584]⟩
abbrev S2048x128 : Shape := ⟨2, ![2048, 128]⟩
abbrev S448x512 : Shape := ⟨2, ![448, 512]⟩
abbrev S1x512 : Shape := ⟨2, ![1, 512]⟩
abbrev S1568x512 : Shape := ⟨2, ![1568, 512]⟩
abbrev S2048x512 : Shape := ⟨2, ![2048, 512]⟩
abbrev S3840x512 : Shape := ⟨2, ![3840, 512]⟩
abbrev S256x512 : Shape := ⟨2, ![256, 512]⟩
abbrev S392x512 : Shape := ⟨2, ![392, 512]⟩
abbrev S512x512 : Shape := ⟨2, ![512, 512]⟩
abbrev S256x3328 : Shape := ⟨2, ![256, 3328]⟩
abbrev S3328x512 : Shape := ⟨2, ![3328, 512]⟩
abbrev S24x256x9728 : Shape := ⟨3, ![24, 256, 9728]⟩
abbrev S24x256x448 : Shape := ⟨3, ![24, 256, 448]⟩
abbrev S6144x1 : Shape := ⟨2, ![6144, 1]⟩
abbrev S6144 : Shape := ⟨1, ![6144]⟩
abbrev S24x256 : Shape := ⟨2, ![24, 256]⟩
abbrev S24x256x3136 : Shape := ⟨3, ![24, 256, 3136]⟩

abbrev nBuf : Space → Nat
  | .hbm => 23
  | .vmem => 26
  | .smem => 0
  | _ => 0

abbrev bufTy : (tb : Table) → Fin (tcTables nBuf tb) → BufTy
  | .hbm, ⟨0, _⟩ => ⟨S24x256x3584, .bf16⟩
  | .hbm, ⟨1, _⟩ => ⟨S3584x3584, .bf16⟩
  | .hbm, ⟨2, _⟩ => ⟨S448x9728, .i8⟩
  | .hbm, ⟨3, _⟩ => ⟨S9728, .f32⟩
  | .hbm, ⟨4, _⟩ => ⟨S1568x9728, .i8⟩
  | .hbm, ⟨5, _⟩ => ⟨S9728, .f32⟩
  | .hbm, ⟨6, _⟩ => ⟨S6144x3584, .bf16⟩
  | .hbm, ⟨7, _⟩ => ⟨S6144x448, .i8⟩
  | .hbm, ⟨8, _⟩ => ⟨S6144x3136, .i8⟩
  | .hbm, ⟨9, _⟩ => ⟨S6144x3584, .i8⟩
  | .hbm, ⟨10, _⟩ => ⟨S6144x128, .f32⟩
  | .hbm, ⟨11, _⟩ => ⟨S1x9728, .f32⟩
  | .hbm, ⟨12, _⟩ => ⟨S1x9728, .f32⟩
  | .hbm, ⟨13, _⟩ => ⟨S6144x9728, .bf16⟩
  | .hbm, ⟨14, _⟩ => ⟨S24x256x9728, .bf16⟩
  | .hbm, ⟨15, _⟩ => ⟨S24x256x448, .i8⟩
  | .hbm, ⟨16, _⟩ => ⟨S6144x1, .f32⟩
  | .hbm, ⟨17, _⟩ => ⟨S6144, .f32⟩
  | .hbm, ⟨18, _⟩ => ⟨S24x256, .f32⟩
  | .hbm, ⟨19, _⟩ => ⟨S24x256x3136, .i8⟩
  | .hbm, ⟨20, _⟩ => ⟨S6144x1, .f32⟩
  | .hbm, ⟨21, _⟩ => ⟨S6144, .f32⟩
  | .hbm, ⟨22, _⟩ => ⟨S24x256, .f32⟩
  | .local _ .vmem, ⟨0, _⟩ => ⟨S256x3584, .bf16⟩
  | .local _ .vmem, ⟨1, _⟩ => ⟨S256x3584, .bf16⟩
  | .local _ .vmem, ⟨2, _⟩ => ⟨S3584x3584, .bf16⟩
  | .local _ .vmem, ⟨3, _⟩ => ⟨S256x448, .i8⟩
  | .local _ .vmem, ⟨4, _⟩ => ⟨S256x448, .i8⟩
  | .local _ .vmem, ⟨5, _⟩ => ⟨S256x3136, .i8⟩
  | .local _ .vmem, ⟨6, _⟩ => ⟨S256x3136, .i8⟩
  | .local _ .vmem, ⟨7, _⟩ => ⟨S256x3584, .i8⟩
  | .local _ .vmem, ⟨8, _⟩ => ⟨S256x3584, .i8⟩
  | .local _ .vmem, ⟨9, _⟩ => ⟨S256x128, .f32⟩
  | .local _ .vmem, ⟨10, _⟩ => ⟨S256x128, .f32⟩
  | .local _ .vmem, ⟨11, _⟩ => ⟨S2048x3584, .i8⟩
  | .local _ .vmem, ⟨12, _⟩ => ⟨S2048x3584, .i8⟩
  | .local _ .vmem, ⟨13, _⟩ => ⟨S2048x128, .f32⟩
  | .local _ .vmem, ⟨14, _⟩ => ⟨S2048x128, .f32⟩
  | .local _ .vmem, ⟨15, _⟩ => ⟨S448x512, .i8⟩
  | .local _ .vmem, ⟨16, _⟩ => ⟨S448x512, .i8⟩
  | .local _ .vmem, ⟨17, _⟩ => ⟨S1x512, .f32⟩
  | .local _ .vmem, ⟨18, _⟩ => ⟨S1x512, .f32⟩
  | .local _ .vmem, ⟨19, _⟩ => ⟨S1568x512, .i8⟩
  | .local _ .vmem, ⟨20, _⟩ => ⟨S1568x512, .i8⟩
  | .local _ .vmem, ⟨21, _⟩ => ⟨S1x512, .f32⟩
  | .local _ .vmem, ⟨22, _⟩ => ⟨S1x512, .f32⟩
  | .local _ .vmem, ⟨23, _⟩ => ⟨S2048x512, .bf16⟩
  | .local _ .vmem, ⟨24, _⟩ => ⟨S2048x512, .bf16⟩
  | .local _ .vmem, ⟨25, _⟩ => ⟨S3840x512, .bf16⟩
  | _, _ => ⟨S24x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x448 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3136 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![19, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2048x3584 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S448x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1568x512 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S24x256x3584 : Shape := ⟨3, ![24, 256, 3584]⟩
abbrev S3584x3584 : Shape := ⟨2, ![3584, 3584]⟩
abbrev S448x9728 : Shape := ⟨2, ![448, 9728]⟩
abbrev S9728 : Shape := ⟨1, ![9728]⟩
abbrev S1568x9728 : Shape := ⟨2, ![1568, 9728]⟩
abbrev S6144x3584 : Shape := ⟨2, ![6144, 3584]⟩
abbrev S1x9728 : Shape := ⟨2, ![1, 9728]⟩
abbrev S6144x9728 : Shape := ⟨2, ![6144, 9728]⟩
abbrev S6144x448 : Shape := ⟨2, ![6144, 448]⟩
abbrev S6144x1 : Shape := ⟨2, ![6144, 1]⟩
abbrev S6144x3136 : Shape := ⟨2, ![6144, 3136]⟩
abbrev S6144 : Shape := ⟨1, ![6144]⟩
abbrev S6144x1568 : Shape := ⟨2, ![6144, 1568]⟩
abbrev S24x256x9728 : Shape := ⟨3, ![24, 256, 9728]⟩
abbrev S24x256x448 : Shape := ⟨3, ![24, 256, 448]⟩
abbrev S24x256 : Shape := ⟨2, ![24, 256]⟩
abbrev S24x256x3136 : Shape := ⟨3, ![24, 256, 3136]⟩

abbrev nBuf : Space → Nat
  | .hbm => 19
  | .vmem => 11
  | .smem => 0
  | _ => 0

abbrev bufTy : (tb : Table) → Fin (tcTables nBuf tb) → BufTy
  | .hbm, ⟨0, _⟩ => ⟨S24x256x3584, .bf16⟩
  | .hbm, ⟨1, _⟩ => ⟨S3584x3584, .bf16⟩
  | .hbm, ⟨2, _⟩ => ⟨S448x9728, .i8⟩
  | .hbm, ⟨3, _⟩ => ⟨S9728, .f32⟩
  | .hbm, ⟨4, _⟩ => ⟨S1568x9728, .i8⟩
  | .hbm, ⟨5, _⟩ => ⟨S9728, .f32⟩
  | .hbm, ⟨6, _⟩ => ⟨S6144x3584, .bf16⟩
  | .hbm, ⟨7, _⟩ => ⟨S1x9728, .f32⟩
  | .hbm, ⟨8, _⟩ => ⟨S1x9728, .f32⟩
  | .hbm, ⟨9, _⟩ => ⟨S6144x9728, .bf16⟩
  | .hbm, ⟨10, _⟩ => ⟨S6144x448, .i8⟩
  | .hbm, ⟨11, _⟩ => ⟨S6144x1, .f32⟩
  | .hbm, ⟨12, _⟩ => ⟨S6144x3136, .i8⟩
  | .hbm, ⟨13, _⟩ => ⟨S6144x1, .f32⟩
  | .hbm, ⟨14, _⟩ => ⟨S24x256x9728, .bf16⟩
  | .hbm, ⟨15, _⟩ => ⟨S24x256x448, .i8⟩
  | .hbm, ⟨16, _⟩ => ⟨S24x256, .f32⟩
  | .hbm, ⟨17, _⟩ => ⟨S24x256x3136, .i8⟩
  | .hbm, ⟨18, _⟩ => ⟨S24x256, .f32⟩
  | .local _ .vmem, ⟨0, _⟩ => ⟨S6144x3584, .bf16⟩
  | .local _ .vmem, ⟨1, _⟩ => ⟨S3584x3584, .bf16⟩
  | .local _ .vmem, ⟨2, _⟩ => ⟨S448x9728, .i8⟩
  | .local _ .vmem, ⟨3, _⟩ => ⟨S1x9728, .f32⟩
  | .local _ .vmem, ⟨4, _⟩ => ⟨S1568x9728, .i8⟩
  | .local _ .vmem, ⟨5, _⟩ => ⟨S1x9728, .f32⟩
  | .local _ .vmem, ⟨6, _⟩ => ⟨S6144x9728, .bf16⟩
  | .local _ .vmem, ⟨7, _⟩ => ⟨S6144x448, .i8⟩
  | .local _ .vmem, ⟨8, _⟩ => ⟨S6144x1, .f32⟩
  | .local _ .vmem, ⟨9, _⟩ => ⟨S6144x3136, .i8⟩
  | .local _ .vmem, ⟨10, _⟩ => ⟨S6144x1, .f32⟩
  | _, _ => ⟨S24x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x9728 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1568x9728 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9728 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x9728 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x448 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x3136 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Region0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S256x448 .i8 := (Memref.whole cc0_stg2_0 : Memref sig .tc .vmem S256x448 .i8).view
/-- One staging buffer of output window 3, through which its contents are stated (`View.read_writes_of_cover`: the
    choice does not matter). -/
abbrev VO0_3 : View sig .tc .vmem S256x3136 .i8 := (Memref.whole cc0_stg3_0 : Memref sig .tc .vmem S256x3136 .i8).view
/-- One staging buffer of output window 4, through which its contents are stated (`View.read_writes_of_cover`: the
    choice does not matter). -/
abbrev VO0_4 : View sig .tc .vmem S256x3584 .i8 := (Memref.whole cc0_stg4_0 : Memref sig .tc .vmem S256x3584 .i8).view
/-- One staging buffer of output window 5, through which its contents are stated (`View.read_writes_of_cover`: the
    choice does not matter). -/
abbrev VO0_5 : View sig .tc .vmem S256x128 .f32 := (Memref.whole cc0_stg5_0 : Memref sig .tc .vmem S256x128 .f32).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x448 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3136 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) :
    Σ' (L2 : List (View.Piece (Elt F) S256x448 .i8)), Σ' (L3 : List (View.Piece (Elt F) S256x3136 .i8)), Σ' (L4 : List (View.Piece (Elt F) S256x3584 .i8)), { L5 : List (View.Piece (Elt F) S256x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_rotate_quant i arg1 harg1 arg2 harg2 arg3 harg3 arg4 harg4 arg5 harg5 arg6 harg6) K } := by
  refine ⟨?_, ?_, ?_, ?_, fun E K => ?run⟩
  case run =>
    simp only [cc0_rotate_quant_eq_skeleton]; unfold cc0_rotate_quant_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block (1 store of `S256x448`, checked by the kernel's evaluation: Lib/Ring.lean `Piece.tiledL`, linear in the pieces, through a loop's `@[irreducible]` trip theorem too), so they cover it. -/
theorem cover0_A_2 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x448.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S256x448.size (by sl_kernel_rfl) y

/-- What the run leaves in output 2's staging buffer: its pieces read back over junk. -/
def out0_A_2 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x448 .i8 :=
  VO0_2.read (Elt F) (VO0_2.writes (Elt F) VO0_2.junk (kernelRun0_A c i arg1 harg1 arg2 harg2 arg3 harg3 arg4 harg4 arg5 harg5 arg6 harg6 x0 x1).1)

/-- The run's pieces for output 3 tile its block (1 store of `S256x3136`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x3136.Idx) :
    ∃ pc ∈ (kernelRun0_A c i arg1 harg1 arg2 harg2 arg3 harg3 arg4 harg4 arg5 harg5 arg6 harg6 x0 x1).2.1, y ∈ pc.1.set :=
  View.cover_of_tiledL (kernelRun0_A c i arg1 harg1 arg2 harg2 arg3 harg3 arg4 harg4 arg5 harg5 arg6 harg6 x0 x1).2.1 S256x3136.size (by sl_kernel_rfl) y

/-- What the run leaves in output 3's staging buffer: its pieces read back over junk. -/
def out0_A_3 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x3136 .i8 :=
  VO0_3.read (Elt F) (VO0_3.writes (Elt F) VO0_3.junk (kernelRun0_A c i arg1 harg1 arg2 harg2 arg3 harg3 arg4 harg4 arg5 harg5 arg6 harg6 x0 x1).2.1)

/-- The run's pieces for output 4 are of SEVERAL sizes (2 stores of `S256x3136`, `S256x448`): cut into blocks of `![256, 448]` they tile its block (checked by the kernel's evaluation: Lib/Ring.lean `Piece.tiledBy`), so they cover it. -/
theorem cover0_A_4 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x3584.Idx) :
    ∃ pc ∈ (kernelRun0_A c i arg1 harg1 arg2 harg2 arg3 harg3 arg4 harg4 arg5 harg5 arg6 harg6 x0 x1).2.2.1, y ∈ pc.1.set :=
  View.cover_of_tiledBy (kernelRun0_A c i arg1 harg1 arg2 harg2 arg3 harg3 arg4 harg4 arg5 harg5 arg6 harg6 x0 x1).2.2.1 ![256, 448] (by sl_kernel_rfl) y

/-- What the run leaves in output 4's staging buffer: its pieces read back over junk. -/
def out0_A_4 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x3584 .i8 :=
  VO0_4.read (Elt F) (VO0_4.writes (Elt F) VO0_4.junk (kernelRun0_A c i arg1 harg1 arg2 harg2 arg3 harg3 arg4 harg4 arg5 harg5 arg6 harg6 x0 x1).2.2.1)

/-- The run's pieces for output 5 tile its block (1 store of `S256x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x128.Idx) :
    ∃ pc ∈ (kernelRun0_A c i arg1 harg1 arg2 harg2 arg3 harg3 arg4 harg4 arg5 harg5 arg6 harg6 x0 x1).2.2.2.1, y ∈ pc.1.set :=
  View.cover_of_tiledL (kernelRun0_A c i arg1 harg1 arg2 harg2 arg3 harg3 arg4 harg4 arg5 harg5 arg6 harg6 x0 x1).2.2.2.1 S256x128.size (by sl_kernel_rfl) y

/-- What the run leaves in output 5's staging buffer: its pieces read back over junk. -/
def out0_A_5 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x128 .f32 :=
  VO0_5.read (Elt F) (VO0_5.writes (Elt F) VO0_5.junk (kernelRun0_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S256x448 .i8 × Vec F S256x3136 .i8 × Vec F S256x3584 .i8 × Vec F S256x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 V c 0 t) (iblk0 V c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Own

end
-- ==== Proof.Kernel.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S2048x512 .bf16 := (Memref.whole cc1_stg6_0 : Memref sig .tc .vmem S2048x512 .bf16).view
/-- Each window's current staging memref at point `t`, spelled as the pipeline passes it (`bodyAt1`), and its wholeness. -/
abbrev ms1_0 (t : Fin cfg1.N) : Memref sig .tc .vmem S2048x3584 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S448x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1568x512 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S3840x512 .bf16 := Memref.whole cc1_scratch0
/-- The buffers of the region's scoped rest the body never touches, at some contents each, beside `S`: what is said of the
    body's own scratch. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

/-- The region invariant with the scratch at anything, written with the scratch set apart. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

/-- The condition of the body's `scf.if` 0 (`the first branch`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 3) — by arithmetic of the point. -/
theorem hcond1_0 : ∀ t : Fin cfg1.N, cond1_0 (grid1.coords t) ↔ t.val % 3 = 0 :=
  (fun t => by
    have ht : t.val < 57 := Nat.lt_of_lt_of_eq t.isLt N_1
    have e0 : (grid1.coords t 0).val = t.val / 3 % 19 := Pipeline.Grid.coords_val t 0 (by decide) rfl
    have e1 : (grid1.coords t 1).val = t.val / 1 % 3 := Pipeline.Grid.coords_val t 1 (by decide) rfl
    simp only [cond1_0, e0, e1]
    word_cmp
   : ∀ t : Fin grid1.N, cond1_0 (grid1.coords t) ↔ t.val % 3 = 0)

/-- The scratch the body carries between points, as a view: what it holds is stated through it. -/
abbrev VS1_0 : View sig .tc .vmem S3840x512 .bf16 := scM1_0.view

end Cert.Kernel.Own

end
-- ==== Proof.Kernel.Region1RunA.lean ====
module

public import proofs.«01_k».proof.Proof.Kernel.Region1

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken: points 0, 3, … 54: 19 of 57), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) :
    Σ' (L6 : List (View.Piece (Elt F) S2048x512 .bf16)), { LS0 : List (View.Piece (Elt F) S3840x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_code_matmul i arg2 harg2 arg3 harg3 arg4 harg4 arg5 harg5 arg6 harg6 arg7 harg7 arg8 harg8 arg9 harg9) K } := by
  refine ⟨?_, ?_, fun E K => ?run⟩
  case run =>
    simp only [cc1_code_matmul_eq_skeleton]; unfold cc1_code_matmul_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Own

end
-- ==== Proof.Kernel.Region1RunB.lean ====
module

public import proofs.«01_k».proof.Proof.Kernel.Region1RunA

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 56: 38 of 57), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) :
    Σ' (L6 : List (View.Piece (Elt F) S2048x512 .bf16)), { LS0 : List (View.Piece (Elt F) S3840x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc1_code_matmul i arg2 harg2 arg3 harg3 arg4 harg4 arg5 harg5 arg6 harg6 arg7 harg7 arg8 harg8 arg9 harg9) K } := by
  refine ⟨?_, [], fun E K => ?run⟩
  case run =>
    simp only [cc1_code_matmul_eq_skeleton]; unfold cc1_code_matmul_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.Kernel.Own

end
-- ==== Proof.Kernel.Region1Data.lean ====
module

public import proofs.«01_k».proof.Proof.Kernel.Region1RunB

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 6 tile its block (8 stores of `S256x512`, checked by the kernel's evaluation: Lib/Ring.lean `Piece.tiledL`, linear in the pieces, through a loop's `@[irreducible]` trip theorem too), so they cover it. -/
theorem cover1_A_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) (y : S2048x512.Idx) :
    ∃ pc ∈ (kernelRun1_A c i arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).1 S256x512.size (by sl_kernel_rfl) y

/-- What case A leaves in output 6's staging buffer: its pieces read back over junk. -/
def out1_A_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) : Vec F S2048x512 .bf16 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4 x5).1)

/-- Case A's pieces for scratch `arg9`, which the kernel carries between points, cover it: 4 pieces (stores and landed copies) of several sizes (`S1568x512`, `S256x512`, `S448x512`) tiling it when cut into blocks of `![32, 512]` (Lib/Ring.lean `Piece.tiledBy`). -/
theorem scover1_A_0 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) (y : S3840x512.Idx) :
    ∃ pc ∈ (kernelRun1_A c i arg2 harg2 arg3 harg3 arg4 harg4 arg5 harg5 arg6 harg6 arg7 harg7 arg8 harg8 arg9 harg9 hc0 x0 x1 x2 x3 x4 x5).2.1, y ∈ pc.1.set :=
  View.cover_of_tiledBy (kernelRun1_A c i arg2 harg2 arg3 harg3 arg4 harg4 arg5 harg5 arg6 harg6 arg7 harg7 arg8 harg8 arg9 harg9 hc0 x0 x1 x2 x3 x4 x5).2.1 ![32, 512] (by sl_kernel_rfl) y

/-- What case A leaves in scratch `arg9`: its pieces read back over junk. -/
def sout1_A_0 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) : Vec F S3840x512 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4 x5).2.1)

/-- Case B's pieces for output 6 tile its block (8 stores of `S256x512`, checked by the kernel's evaluation: Lib/Ring.lean `Piece.tiledL`, linear in the pieces, through a loop's `@[irreducible]` trip theorem too), so they cover it. -/
theorem cover1_B_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) (y : S2048x512.Idx) :
    ∃ pc ∈ (kernelRun1_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xs0).1 S256x512.size (by sl_kernel_rfl) y

/-- What case B leaves in output 6's staging buffer: its pieces read back over junk. -/
def out1_B_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) : Vec F S2048x512 .bf16 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 x5 xs0).1)

/-- Case B stores nothing into scratch `arg9`: it holds what the point before left. -/
def sout1_B_0 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) : Vec F S3840x512 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x512 .bf16 × Vec F S3840x512 .bf16
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 3 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 3 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 3 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(rest1 c iprop(owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(rest1 c iprop(owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(rest1 c iprop(owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.succ = PhiS V c (t.val + 1) t.isLt from rfl, PhiS_succ]
  have hN : t.val < 57 := lt_of_lt_of_eq t.isLt (show cfg1.N = 57 from N_1)
  by_cases h0 : t.val % 3 = 0
  · by_cases hz : t.val = 0
    · rw [PhiS_castSucc V c t, PhiS_zero V c _ _ hz, PhiA1_eq]
      rw [outsAt1_A V c t h0]
      unfold out1_A_6 sout1_A_0; (try dsimp only)
      unfold rest1
      iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HR8 HR9 HR10 HS0 Hg]
      · isplitl [HR0 HR1 HR2 HR3 HR4 HR5 HR6 HR7 HR8 HR9 HR10 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc V c t, PhiS_pos V c _ _ hz]
      rw [outsAt1_A V c t h0]
      unfold out1_A_6 sout1_A_0; (try dsimp only)
      unfold rest1
      iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HR0 HR1 HR2 HR3 HR4 HR5 HR6 HR7 HR8 HR9 HR10 HS0 Hg]
      · isplitl [HR0 HR1 HR2 HR3 HR4 HR5 HR6 HR7 HR8 HR9 HR10 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
  · by_cases hz : t.val = 0
    · exfalso; have hN : t.val < 57 := lt_of_lt_of_eq t.isLt (show cfg1.N = 57 from N_1); omega
    · rw [PhiS_castSucc V c t, PhiS_pos V c _ _ hz]
      rw [outsAt1_B V c t h0]
      unfold out1_B_6 sout1_B_0; (try dsimp only)
      unfold rest1
      iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, HS0⟩
      isplitl [HR0 HR1 HR2 HR3 HR4 HR5 HR6 HR7 HR8 HR9 HR10 HS0 Hg]
      · isplitl [HR0 HR1 HR2 HR3 HR4 HR5 HR6 HR7 HR8 HR9 HR10 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_B_6 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold rest1
  iintro ⟨⟨HR0, HR1, HR2, HR3, HR4, HR5, HR6, HR7, HR8, HR9, HR10, HS0⟩, Hg⟩
  isplitl [HR0 HR1 HR2 HR3 HR4 HR5 HR6 HR7 HR8 HR9 HR10 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 57 := N_1; omega)

end Cert.Kernel.Own

end
-- ==== Proof.Kernel.Run.lean ====
module

public import proofs.«01_k».proof.Proof.Kernel.Region0
public import proofs.«01_k».proof.Proof.Kernel.Region1Data

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7, main_v8, main_v9, main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout (V3 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The launch: from any memory with zero counters every weakly fair execution of the program ends, and at every final
    state each unscoped buffer of each core holds the last boundary's contents and every semaphore counter is zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run_main m ρ)

end Cert.Kernel.Own

end
-- ==== Proof.KernelIdeal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S256x448 .i8 := (Memref.whole cc0_stg2_0 : Memref sig .tc .vmem S256x448 .i8).view
/-- One staging buffer of output window 3, through which its contents are stated (`View.read_writes_of_cover`: the
    choice does not matter). -/
abbrev VO0_3 : View sig .tc .vmem S256x3136 .i8 := (Memref.whole cc0_stg3_0 : Memref sig .tc .vmem S256x3136 .i8).view
/-- One staging buffer of output window 4, through which its contents are stated (`View.read_writes_of_cover`: the
    choice does not matter). -/
abbrev VO0_4 : View sig .tc .vmem S256x3584 .i8 := (Memref.whole cc0_stg4_0 : Memref sig .tc .vmem S256x3584 .i8).view
/-- One staging buffer of output window 5, through which its contents are stated (`View.read_writes_of_cover`: the
    choice does not matter). -/
abbrev VO0_5 : View sig .tc .vmem S256x128 .f32 := (Memref.whole cc0_stg5_0 : Memref sig .tc .vmem S256x128 .f32).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x448 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3136 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) :
    Σ' (L2 : List (View.Piece (Elt F) S256x448 .i8)), Σ' (L3 : List (View.Piece (Elt F) S256x3136 .i8)), Σ' (L4 : List (View.Piece (Elt F) S256x3584 .i8)), { L5 : List (View.Piece (Elt F) S256x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_rotate_quant i arg1 harg1 arg2 harg2 arg3 harg3 arg4 harg4 arg5 harg5 arg6 harg6) K } := by
  refine ⟨?_, ?_, ?_, ?_, fun E K => ?run⟩
  case run =>
    simp only [cc0_rotate_quant_eq_skeleton]; unfold cc0_rotate_quant_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block (1 store of `S256x448`, checked by the kernel's evaluation: Lib/Ring.lean `Piece.tiledL`, linear in the pieces, through a loop's `@[irreducible]` trip theorem too), so they cover it. -/
theorem cover0_A_2 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x448.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S256x448.size (by sl_kernel_rfl) y

/-- What the run leaves in output 2's staging buffer: its pieces read back over junk. -/
def out0_A_2 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x448 .i8 :=
  VO0_2.read (Elt F) (VO0_2.writes (Elt F) VO0_2.junk (kernelRun0_A c i arg1 harg1 arg2 harg2 arg3 harg3 arg4 harg4 arg5 harg5 arg6 harg6 x0 x1).1)

/-- The run's pieces for output 3 tile its block (1 store of `S256x3136`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x3136.Idx) :
    ∃ pc ∈ (kernelRun0_A c i arg1 harg1 arg2 harg2 arg3 harg3 arg4 harg4 arg5 harg5 arg6 harg6 x0 x1).2.1, y ∈ pc.1.set :=
  View.cover_of_tiledL (kernelRun0_A c i arg1 harg1 arg2 harg2 arg3 harg3 arg4 harg4 arg5 harg5 arg6 harg6 x0 x1).2.1 S256x3136.size (by sl_kernel_rfl) y

/-- What the run leaves in output 3's staging buffer: its pieces read back over junk. -/
def out0_A_3 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x3136 .i8 :=
  VO0_3.read (Elt F) (VO0_3.writes (Elt F) VO0_3.junk (kernelRun0_A c i arg1 harg1 arg2 harg2 arg3 harg3 arg4 harg4 arg5 harg5 arg6 harg6 x0 x1).2.1)

/-- The run's pieces for output 4 are of SEVERAL sizes (2 stores of `S256x3136`, `S256x448`): cut into blocks of `![256, 448]` they tile its block (checked by the kernel's evaluation: Lib/Ring.lean `Piece.tiledBy`), so they cover it. -/
theorem cover0_A_4 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x3584.Idx) :
    ∃ pc ∈ (kernelRun0_A c i arg1 harg1 arg2 harg2 arg3 harg3 arg4 harg4 arg5 harg5 arg6 harg6 x0 x1).2.2.1, y ∈ pc.1.set :=
  View.cover_of_tiledBy (kernelRun0_A c i arg1 harg1 arg2 harg2 arg3 harg3 arg4 harg4 arg5 harg5 arg6 harg6 x0 x1).2.2.1 ![256, 448] (by sl_kernel_rfl) y

/-- What the run leaves in output 4's staging buffer: its pieces read back over junk. -/
def out0_A_4 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x3584 .i8 :=
  VO0_4.read (Elt F) (VO0_4.writes (Elt F) VO0_4.junk (kernelRun0_A c i arg1 harg1 arg2 harg2 arg3 harg3 arg4 harg4 arg5 harg5 arg6 harg6 x0 x1).2.2.1)

/-- The run's pieces for output 5 tile its block (1 store of `S256x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) (y : S256x128.Idx) :
    ∃ pc ∈ (kernelRun0_A c i arg1 harg1 arg2 harg2 arg3 harg3 arg4 harg4 arg5 harg5 arg6 harg6 x0 x1).2.2.2.1, y ∈ pc.1.set :=
  View.cover_of_tiledL (kernelRun0_A c i arg1 harg1 arg2 harg2 arg3 harg3 arg4 harg4 arg5 harg5 arg6 harg6 x0 x1).2.2.2.1 S256x128.size (by sl_kernel_rfl) y

/-- What the run leaves in output 5's staging buffer: its pieces read back over junk. -/
def out0_A_5 (c : Dev nD) (i : grid0.Coords) (arg1 : Memref sig .tc .vmem S256x3584 .bf16) (harg1 : arg1.IsWhole) (arg2 : Memref sig .tc .vmem S3584x3584 .bf16) (harg2 : arg2.IsWhole) (arg3 : Memref sig .tc .vmem S256x448 .i8) (harg3 : arg3.IsWhole) (arg4 : Memref sig .tc .vmem S256x3136 .i8) (harg4 : arg4.IsWhole) (arg5 : Memref sig .tc .vmem S256x3584 .i8) (harg5 : arg5.IsWhole) (arg6 : Memref sig .tc .vmem S256x128 .f32) (harg6 : arg6.IsWhole)
    (x0 : Vec F S256x3584 .bf16) (x1 : Vec F S3584x3584 .bf16) : Vec F S256x128 .f32 :=
  VO0_5.read (Elt F) (VO0_5.writes (Elt F) VO0_5.junk (kernelRun0_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S256x448 .i8 × Vec F S256x3136 .i8 × Vec F S256x3584 .i8 × Vec F S256x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 V c 0 t) (iblk0 V c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S2048x512 .bf16 := (Memref.whole cc1_stg6_0 : Memref sig .tc .vmem S2048x512 .bf16).view
/-- Each window's current staging memref at point `t`, spelled as the pipeline passes it (`bodyAt1`), and its wholeness. -/
abbrev ms1_0 (t : Fin cfg1.N) : Memref sig .tc .vmem S2048x3584 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S448x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1568x512 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S3840x512 .bf16 := Memref.whole cc1_scratch0
/-- The buffers of the region's scoped rest the body never touches, at some contents each, beside `S`: what is said of the
    body's own scratch. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

/-- The region invariant with the scratch at anything, written with the scratch set apart. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

/-- The condition of the body's `scf.if` 0 (`the first branch`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 3) — by arithmetic of the point. -/
theorem hcond1_0 : ∀ t : Fin cfg1.N, cond1_0 (grid1.coords t) ↔ t.val % 3 = 0 :=
  (fun t => by
    have ht : t.val < 57 := Nat.lt_of_lt_of_eq t.isLt N_1
    have e0 : (grid1.coords t 0).val = t.val / 3 % 19 := Pipeline.Grid.coords_val t 0 (by decide) rfl
    have e1 : (grid1.coords t 1).val = t.val / 1 % 3 := Pipeline.Grid.coords_val t 1 (by decide) rfl
    simp only [cond1_0, e0, e1]
    word_cmp
   : ∀ t : Fin grid1.N, cond1_0 (grid1.coords t) ↔ t.val % 3 = 0)

/-- The scratch the body carries between points, as a view: what it holds is stated through it. -/
abbrev VS1_0 : View sig .tc .vmem S3840x512 .bf16 := scM1_0.view

end Cert.KernelIdeal.Own

end
-- ==== Proof.KernelIdeal.Region1RunA.lean ====
module

public import proofs.«01_k».proof.Proof.KernelIdeal.Region1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken: points 0, 3, … 54: 19 of 57), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) :
    Σ' (L6 : List (View.Piece (Elt F) S2048x512 .bf16)), { LS0 : List (View.Piece (Elt F) S3840x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_code_matmul i arg2 harg2 arg3 harg3 arg4 harg4 arg5 harg5 arg6 harg6 arg7 harg7 arg8 harg8 arg9 harg9) K } := by
  refine ⟨?_, ?_, fun E K => ?run⟩
  case run =>
    simp only [cc1_code_matmul_eq_skeleton]; unfold cc1_code_matmul_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Own

end
-- ==== Proof.KernelIdeal.Region1RunB.lean ====
module

public import proofs.«01_k».proof.Proof.KernelIdeal.Region1RunA

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 56: 38 of 57), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) :
    Σ' (L6 : List (View.Piece (Elt F) S2048x512 .bf16)), { LS0 : List (View.Piece (Elt F) S3840x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc1_code_matmul i arg2 harg2 arg3 harg3 arg4 harg4 arg5 harg5 arg6 harg6 arg7 harg7 arg8 harg8 arg9 harg9) K } := by
  refine ⟨?_, [], fun E K => ?run⟩
  case run =>
    simp only [cc1_code_matmul_eq_skeleton]; unfold cc1_code_matmul_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.KernelIdeal.Own

end
-- ==== Proof.KernelIdeal.Region1Data.lean ====
module

public import proofs.«01_k».proof.Proof.KernelIdeal.Region1RunB

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 6 tile its block (8 stores of `S256x512`, checked by the kernel's evaluation: Lib/Ring.lean `Piece.tiledL`, linear in the pieces, through a loop's `@[irreducible]` trip theorem too), so they cover it. -/
theorem cover1_A_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) (y : S2048x512.Idx) :
    ∃ pc ∈ (kernelRun1_A c i arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).1 S256x512.size (by sl_kernel_rfl) y

/-- What case A leaves in output 6's staging buffer: its pieces read back over junk. -/
def out1_A_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) : Vec F S2048x512 .bf16 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4 x5).1)

/-- Case A's pieces for scratch `arg9`, which the kernel carries between points, cover it: 4 pieces (stores and landed copies) of several sizes (`S1568x512`, `S256x512`, `S448x512`) tiling it when cut into blocks of `![32, 512]` (Lib/Ring.lean `Piece.tiledBy`). -/
theorem scover1_A_0 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) (y : S3840x512.Idx) :
    ∃ pc ∈ (kernelRun1_A c i arg2 harg2 arg3 harg3 arg4 harg4 arg5 harg5 arg6 harg6 arg7 harg7 arg8 harg8 arg9 harg9 hc0 x0 x1 x2 x3 x4 x5).2.1, y ∈ pc.1.set :=
  View.cover_of_tiledBy (kernelRun1_A c i arg2 harg2 arg3 harg3 arg4 harg4 arg5 harg5 arg6 harg6 arg7 harg7 arg8 harg8 arg9 harg9 hc0 x0 x1 x2 x3 x4 x5).2.1 ![32, 512] (by sl_kernel_rfl) y

/-- What case A leaves in scratch `arg9`: its pieces read back over junk. -/
def sout1_A_0 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : cond1_0 i)
    (x0 : Vec F S2048x3584 .i8) (x1 : Vec F S2048x128 .f32) (x2 : Vec F S448x512 .i8) (x3 : Vec F S1x512 .f32) (x4 : Vec F S1568x512 .i8) (x5 : Vec F S1x512 .f32) : Vec F S3840x512 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4 x5).2.1)

/-- Case B's pieces for output 6 tile its block (8 stores of `S256x512`, checked by the kernel's evaluation: Lib/Ring.lean `Piece.tiledL`, linear in the pieces, through a loop's `@[irreducible]` trip theorem too), so they cover it. -/
theorem cover1_B_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) (y : S2048x512.Idx) :
    ∃ pc ∈ (kernelRun1_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xs0).1 S256x512.size (by sl_kernel_rfl) y

/-- What case B leaves in output 6's staging buffer: its pieces read back over junk. -/
def out1_B_6 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) : Vec F S2048x512 .bf16 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 x5 xs0).1)

/-- Case B stores nothing into scratch `arg9`: it holds what the point before left. -/
def sout1_B_0 (c : Dev nD) (i : grid1.Coords) (arg2 : Memref sig .tc .vmem S2048x3584 .i8) (harg2 : arg2.IsWhole) (arg3 : Memref sig .tc .vmem S2048x128 .f32) (harg3 : arg3.IsWhole) (arg4 : Memref sig .tc .vmem S448x512 .i8) (harg4 : arg4.IsWhole) (arg5 : Memref sig .tc .vmem S1x512 .f32) (harg5 : arg5.IsWhole) (arg6 : Memref sig .tc .vmem S1568x512 .i8) (harg6 : arg6.IsWhole) (arg7 : Memref sig .tc .vmem S1x512 .f32) (harg7 : arg7.IsWhole) (arg8 : Memref sig .tc .vmem S2048x512 .bf16) (harg8 : arg8.IsWhole) (arg9 : Memref sig .tc .vmem S3840x512 .bf16) (harg9 : arg9.IsWhole) (hc0 : ¬cond1_0 i)
    (x0 : Vec F S2048x3584 .i8) (x1 : Vec F S2048x128 .f32) (x2 : Vec F S448x512 .i8) (x3 : Vec F S1x512 .f32) (x4 : Vec F S1568x512 .i8) (x5 : Vec F S1x512 .f32) (xs0 : Vec F S3840x512 .bf16) : Vec F S3840x512 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x512 .bf16 × Vec F S3840x512 .bf16
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 3 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 3 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 3 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(rest1 c iprop(owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(rest1 c iprop(owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(rest1 c iprop(owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.succ = PhiS V c (t.val + 1) t.isLt from rfl, PhiS_succ]
  have hN : t.val < 57 := lt_of_lt_of_eq t.isLt (show cfg1.N = 57 from N_1)
  by_cases h0 : t.val % 3 = 0
  · by_cases hz : t.val = 0
    · rw [PhiS_castSucc V c t, PhiS_zero V c _ _ hz, PhiA1_eq]
      rw [outsAt1_A V c t h0]
      unfold out1_A_6 sout1_A_0; (try dsimp only)
      unfold rest1
      iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HR8 HR9 HR10 HS0 Hg]
      · isplitl [HR0 HR1 HR2 HR3 HR4 HR5 HR6 HR7 HR8 HR9 HR10 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc V c t, PhiS_pos V c _ _ hz]
      rw [outsAt1_A V c t h0]
      unfold out1_A_6 sout1_A_0; (try dsimp only)
      unfold rest1
      iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HR0 HR1 HR2 HR3 HR4 HR5 HR6 HR7 HR8 HR9 HR10 HS0 Hg]
      · isplitl [HR0 HR1 HR2 HR3 HR4 HR5 HR6 HR7 HR8 HR9 HR10 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
  · by_cases hz : t.val = 0
    · exfalso; have hN : t.val < 57 := lt_of_lt_of_eq t.isLt (show cfg1.N = 57 from N_1); omega
    · rw [PhiS_castSucc V c t, PhiS_pos V c _ _ hz]
      rw [outsAt1_B V c t h0]
      unfold out1_B_6 sout1_B_0; (try dsimp only)
      unfold rest1
      iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, HS0⟩
      isplitl [HR0 HR1 HR2 HR3 HR4 HR5 HR6 HR7 HR8 HR9 HR10 HS0 Hg]
      · isplitl [HR0 HR1 HR2 HR3 HR4 HR5 HR6 HR7 HR8 HR9 HR10 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_B_6 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold rest1
  iintro ⟨⟨HR0, HR1, HR2, HR3, HR4, HR5, HR6, HR7, HR8, HR9, HR10, HS0⟩, Hg⟩
  isplitl [HR0 HR1 HR2 HR3 HR4 HR5 HR6 HR7 HR8 HR9 HR10 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 57 := N_1; omega)

end Cert.KernelIdeal.Own

end
-- ==== Proof.KernelIdeal.Run.lean ====
module

public import proofs.«01_k».proof.Proof.KernelIdeal.Region0
public import proofs.«01_k».proof.Proof.KernelIdeal.Region1Data

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7, main_v8, main_v9, main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout (V3 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The launch: from any memory with zero counters every weakly fair execution of the program ends, and at every final
    state each unscoped buffer of each core holds the last boundary's contents and every semaphore counter is zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run_main m ρ)

end Cert.KernelIdeal.Own

end
-- ==== Proof.Value.Rows.lean ====
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

/-! The rotation and the quantiser work row by row: a row of a block of 256 rows that equals a row of the whole
activation gives the same rotated values, scales and codes. -/

namespace Cert.Rows

open Idealize.ShloMosaic Idealize.ShloMosaic.TcCoe

variable (x : FVec Ideal Cert.KernelIdeal.S256x3584 .bf16) (u : FVec Ideal Cert.KernelIdeal.S3584x3584 .bf16)
variable (X : FVec Ideal Cert.ReferenceIdeal.S6144x3584 .bf16)
variable (r : Fin 256) (R : Fin 6144)

/-- The largest element of a row, for any number of rows and columns. -/
theorem maxRow {M N : Nat} (v : FVec Ideal ⟨2, ![M, N]⟩ .f32) (h : (⟨2, ![M, N]⟩ : Shape).Reduces [1] ⟨1, ![M]⟩)
    (hφ : FKind.Formats .f32) (hacc : 0xFF800000#32 = FKind.maximumf.neutral .f32 hφ) (j : Fin M) :
    multiReduction .maximumf [1] ⟨1, ![M]⟩ v 0xFF800000#32 h hφ hacc (ix1 j)
      = (Finset.univ : Finset (Fin N)).fold max (Ideal.ofBits .f32 0xFF800000#32) fun k => v (ix2 j k) := by
  pointwise

/-- The scale a row gets when its largest absolute value is `m` and the largest code is `q`. -/
def scaleOf (q : BitVec 32) (m : EReal) : EReal := if m = 0 then 1 else Ideal.div m (Ideal.ofBits .f32 q)

/-- The scale of a block of rows, at one row. -/
theorem scaleK (m : FVec Ideal Cert.KernelIdeal.S256 .f32) (q : BitVec 32) (r : Fin 256) (z : Fin 1) :
    select (cmpf .oeq (shapeCast Cert.KernelIdeal.S256x1 m Cert.KernelIdeal.Gen.shapeCasts_S256_S256x1)
        (broadcast Cert.KernelIdeal.S256x1 (Scalar.ofBits (F := Ideal) .f32 0x00000000#32)))
      (broadcast Cert.KernelIdeal.S256x1 (Scalar.ofBits (F := Ideal) .f32 0x3F800000#32))
      (divf (shapeCast Cert.KernelIdeal.S256x1 m Cert.KernelIdeal.Gen.shapeCasts_S256_S256x1)
        (broadcast Cert.KernelIdeal.S256x1 (Scalar.ofBits (F := Ideal) .f32 q))) (ix2 r z) = scaleOf q (m (ix1 r)) := by
  pointwise [scaleOf]

/-- The scale of all rows, at one row. -/
theorem scaleR (m : FVec Ideal Cert.ReferenceIdeal.S6144 .f32) (q : BitVec 32) (r : Fin 6144) (z : Fin 1) :
    select (cmpf .oeq (shapeCast Cert.ReferenceIdeal.S6144x1 m Cert.ReferenceIdeal.Gen.shapeCasts_S6144_S6144x1)
        (broadcast Cert.ReferenceIdeal.S6144x1 (Scalar.ofBits (F := Ideal) .f32 0x00000000#32)))
      (broadcast Cert.ReferenceIdeal.S6144x1 (Scalar.ofBits (F := Ideal) .f32 0x3F800000#32))
      (divf (shapeCast Cert.ReferenceIdeal.S6144x1 m Cert.ReferenceIdeal.Gen.shapeCasts_S6144_S6144x1)
        (broadcast Cert.ReferenceIdeal.S6144x1 (Scalar.ofBits (F := Ideal) .f32 q))) (ix2 r z) = scaleOf q (m (ix1 r)) := by
  pointwise [scaleOf]

/-- The code of the value `a` at the scale `s`: divided, rounded to even, clipped to `lo` and `hi`. -/
def codeOf (lo hi : BitVec 32) (a s : EReal) : BitVec 8 :=
  FloatOps.fptosi (F := Ideal) (φ := .f32) 8
    (min (Ideal.ofBits .f32 hi) (max (Ideal.ofBits .f32 lo) (Ideal.liftRound Ideal.roundHalfEven (Ideal.div a s))))

/-- The codes of 256 rows of 448 columns, at one place. -/
theorem codesK448 (lo hi : BitVec 32) (v : FVec Ideal Cert.KernelIdeal.S256x448 .f32) (s : FVec Ideal Cert.KernelIdeal.S256x1 .f32)
    (r : Fin 256) (j : Fin 448) :
    fptosi 8 (minimumf (broadcast Cert.KernelIdeal.S256x448 (Scalar.ofBits (F := Ideal) .f32 hi))
      (maximumf (broadcast Cert.KernelIdeal.S256x448 (Scalar.ofBits (F := Ideal) .f32 lo))
        (roundeven (divf v (broadcastTo Cert.KernelIdeal.S256x448 s Cert.KernelIdeal.Gen.broadcasts_S256x1_S256x448))))) (ix2 r j)
      = codeOf lo hi (v (ix2 r j)) (s (ix2 r 0)) := by
  pointwise [codeOf]

/-- The codes of 256 rows of 3136 columns, at one place. -/
theorem codesK3136 (lo hi : BitVec 32) (v : FVec Ideal Cert.KernelIdeal.S256x3136 .f32) (s : FVec Ideal Cert.KernelIdeal.S256x1 .f32)
    (r : Fin 256) (j : Fin 3136) :
    fptosi 8 (minimumf (broadcast Cert.KernelIdeal.S256x3136 (Scalar.ofBits (F := Ideal) .f32 hi))
      (maximumf (broadcast Cert.KernelIdeal.S256x3136 (Scalar.ofBits (F := Ideal) .f32 lo))
        (roundeven (divf v (broadcastTo Cert.KernelIdeal.S256x3136 s Cert.KernelIdeal.Gen.broadcasts_S256x1_S256x3136))))) (ix2 r j)
      = codeOf lo hi (v (ix2 r j)) (s (ix2 r 0)) := by
  pointwise [codeOf]

/-- The codes of 6144 rows of 448 columns, at one place. -/
theorem codesR448 (lo hi : BitVec 32) (v : FVec Ideal Cert.ReferenceIdeal.S6144x448 .f32) (s : FVec Ideal Cert.ReferenceIdeal.S6144x1 .f32)
    (r : Fin 6144) (j : Fin 448) :
    fptosi 8 (minimumf (broadcast Cert.ReferenceIdeal.S6144x448 (Scalar.ofBits (F := Ideal) .f32 hi))
      (maximumf (broadcast Cert.ReferenceIdeal.S6144x448 (Scalar.ofBits (F := Ideal) .f32 lo))
        (roundeven (divf v (broadcastTo Cert.ReferenceIdeal.S6144x448 s Cert.ReferenceIdeal.Gen.broadcasts_S6144x1_S6144x448))))) (ix2 r j)
      = codeOf lo hi (v (ix2 r j)) (s (ix2 r 0)) := by
  pointwise [codeOf]

/-- The codes of 6144 rows of 3136 columns, at one place. -/
theorem codesR3136 (lo hi : BitVec 32) (v : FVec Ideal Cert.ReferenceIdeal.S6144x3136 .f32) (s : FVec Ideal Cert.ReferenceIdeal.S6144x1 .f32)
    (r : Fin 6144) (j : Fin 3136) :
    fptosi 8 (minimumf (broadcast Cert.ReferenceIdeal.S6144x3136 (Scalar.ofBits (F := Ideal) .f32 hi))
      (maximumf (broadcast Cert.ReferenceIdeal.S6144x3136 (Scalar.ofBits (F := Ideal) .f32 lo))
        (roundeven (divf v (broadcastTo Cert.ReferenceIdeal.S6144x3136 s Cert.ReferenceIdeal.Gen.broadcasts_S6144x1_S6144x3136))))) (ix2 r j)
      = codeOf lo hi (v (ix2 r j)) (s (ix2 r 0)) := by
  pointwise [codeOf]

/-- The rotated row. -/
theorem rot (h : ∀ k : Fin 3584, x (ix2 r k) = X (ix2 R k)) (j : Fin 3584) :
    Cert.KernelIdeal.Gen.k0_pay2 (F := Ideal) x u (ix2 r j) = Cert.ReferenceIdeal.Gen.k0_pay1 (F := Ideal) X u (ix2 R j) := by
  pointwise [Cert.KernelIdeal.Gen.k0_pay2, Cert.ReferenceIdeal.Gen.k0_pay1, h]

/-- The first 448 rotated columns. -/
theorem head (h : ∀ k : Fin 3584, x (ix2 r k) = X (ix2 R k)) (j : Fin 448) :
    Cert.KernelIdeal.Gen.k0_pay3 (F := Ideal) x u (ix2 r j) = Cert.ReferenceIdeal.Gen.k0_pay2 (F := Ideal) X u (ix2 R j) := by
  pointwise [Cert.KernelIdeal.Gen.k0_pay3, Cert.ReferenceIdeal.Gen.k0_pay2]
  exact rot x u X r R h _

/-- The other 3136 rotated columns. -/
theorem tail (h : ∀ k : Fin 3584, x (ix2 r k) = X (ix2 R k)) (j : Fin 3136) :
    Cert.KernelIdeal.Gen.k0_pay6 (F := Ideal) x u (ix2 r j) = Cert.ReferenceIdeal.Gen.k0_pay5 (F := Ideal) X u (ix2 R j) := by
  pointwise [Cert.KernelIdeal.Gen.k0_pay6, Cert.ReferenceIdeal.Gen.k0_pay5]
  exact rot x u X r R h _

/-- The scale of the first 448 columns. -/
theorem headScale (h : ∀ k : Fin 3584, x (ix2 r k) = X (ix2 R k)) (z : Fin 1) :
    Cert.KernelIdeal.Gen.k0_pay4 (F := Ideal) x u (ix2 r z) = Cert.ReferenceIdeal.Gen.k0_pay3 (F := Ideal) X u (ix2 R z) := by
  refine (scaleK _ 0x42FE0000#32 r z).trans (Eq.trans ?_ (scaleR _ 0x42FE0000#32 R z).symm)
  refine congrArg _ ((maxRow (M := 256) (N := 448) _ _ _ _ r).trans (Eq.trans ?_ (maxRow (M := 6144) (N := 448) _ _ _ _ R).symm))
  refine congrArg (fun f => Finset.fold max _ f _) (funext fun k => ?_)
  exact congrArg (FloatOps.absf (F := Ideal)) (head x u X r R h k)

/-- The scale of the other columns. -/
theorem tailScale (h : ∀ k : Fin 3584, x (ix2 r k) = X (ix2 R k)) (z : Fin 1) :
    Cert.KernelIdeal.Gen.k0_pay7 (F := Ideal) x u (ix2 r z) = Cert.ReferenceIdeal.Gen.k0_pay6 (F := Ideal) X u (ix2 R z) := by
  refine (scaleK _ 0x40E00000#32 r z).trans (Eq.trans ?_ (scaleR _ 0x40E00000#32 R z).symm)
  refine congrArg _ ((maxRow (M := 256) (N := 3136) _ _ _ _ r).trans (Eq.trans ?_ (maxRow (M := 6144) (N := 3136) _ _ _ _ R).symm))
  refine congrArg (fun f => Finset.fold max _ f _) (funext fun k => ?_)
  exact congrArg (FloatOps.absf (F := Ideal)) (tail x u X r R h k)

/-- The codes of the first 448 columns. -/
theorem headCodes (h : ∀ k : Fin 3584, x (ix2 r k) = X (ix2 R k)) (j : Fin 448) :
    Cert.KernelIdeal.Gen.k0_pay5 (F := Ideal) x u (ix2 r j) = Cert.ReferenceIdeal.Gen.k0_pay4 (F := Ideal) X u (ix2 R j) := by
  refine (codesK448 0xC2FE0000#32 0x42FE0000#32 _ _ r j).trans (Eq.trans ?_ (codesR448 0xC2FE0000#32 0x42FE0000#32 _ _ R j).symm)
  exact congrArg₂ (codeOf 0xC2FE0000#32 0x42FE0000#32) (head x u X r R h j) (headScale x u X r R h 0)

/-- The codes of the other columns. -/
theorem tailCodes (h : ∀ k : Fin 3584, x (ix2 r k) = X (ix2 R k)) (j : Fin 3136) :
    Cert.KernelIdeal.Gen.k0_pay8 (F := Ideal) x u (ix2 r j) = Cert.ReferenceIdeal.Gen.k0_pay7 (F := Ideal) X u (ix2 R j) := by
  refine (codesK3136 0xC0E00000#32 0x40E00000#32 _ _ r j).trans (Eq.trans ?_ (codesR3136 0xC0E00000#32 0x40E00000#32 _ _ R j).symm)
  exact congrArg₂ (codeOf 0xC0E00000#32 0x40E00000#32) (tail x u X r R h j) (tailScale x u X r R h 0)

/-- The block of scales: lane 0 holds the scale of the head, every other lane that of the tail. -/
theorem scales (a b : FVec Ideal Cert.KernelIdeal.S256x1 .f32) (l : Fin 128) :
    Cert.KernelIdeal.Gen.k0_pay1 (F := Ideal) a b (ix2 r l) = if l.val = 0 then a (ix2 r 0) else b (ix2 r 0) := by
  pointwise [Cert.KernelIdeal.Gen.k0_pay1]
  by_cases hl : l.val = 0
  · rw [if_pos hl, hl]; rfl
  · rw [if_neg hl]
    have hne : BitVec.ofNat 32 l.val ≠ 0#32 := fun e => hl (by
      have := congrArg BitVec.toNat e
      rw [BitVec.toNat_ofNat, Nat.mod_eq_of_lt (show l.val < 2 ^ 32 by omega)] at this
      simpa using this)
    have hb : (BitVec.ofNat 32 l.val == 0#32) = false := beq_false_of_ne hne
    simp only [IntOp.cmpi, Scalar.select, hb]
    rfl

end Cert.Rows
-- ==== Proof.Value.Quantised.lean ====
module

public import proofs.«01_k».proof.Proof.KernelIdeal.Region0
public import proofs.«01_k».proof.Proof.Value.Rows
public import Idealize.ShloMosaic.Lib.Pipeline.ValueKit

@[expose] public section

set_option maxRecDepth 16384

noncomputable section

/-! The arrays the first call leaves: codes and scales of every row, written in terms of the reference's operations. -/

namespace Cert.KernelIdeal.Arrays

open Cert.KernelIdeal Cert.KernelIdeal.Gen Cert.KernelIdeal.Own
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the first call's windows. -/
theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The row of the whole activation that row `r` of block `t` is. -/
def rowOf (t : Fin cfg0.N) (r : Fin 256) : Fin 6144 :=
  ⟨256 * t.val + r.val, by have : t.val < 24 := t.isLt; omega⟩

/-- A row of the block is a row of the activation. -/
theorem iblk0_row (c : Dev nD) (t : Fin cfg0.N) (r : Fin 256) (k : Fin 3584) :
    iblk0 V c 0 t (ix2 r k) = V c main_v0 (ix2 (rowOf t r) k) := by
  blk_ext [iblk0, idx0 t, rowOf]

/-- The block of the rotation is the whole rotation. -/
theorem iblk0_u (c : Dev nD) (t : Fin cfg0.N) : iblk0 V c 1 t = V c main_arg1 := by
  blk_ext! [iblk0, idx0 t]

/-- The codes of the first 448 columns. -/
theorem arr2 (c : Dev nD) : (dat0 V c).arrAt 2 cfg0.N
    = Cert.ReferenceIdeal.Gen.k0_pay4 (F := Ideal) (V c main_v0) (V c main_arg1) := by
  refine (dat0 V c).arrAt_eq_of_covers 2 _ (by decide +kernel) fun t _ y => ?_
  blk_simp
  rw [after0_2]
  simp only [outsAt0]
  frame_out
  rw [iblk0_u]
  refine Eq.trans (congrArg _ (eq_ix2 y)) ?_
  refine (Rows.headCodes (iblk0 V c 0 t) (V c main_arg1) (V c main_v0) (y 0) (rowOf t (y 0)) (fun k => iblk0_row V c t (y 0) k) (y 1)).trans ?_
  blk_ext [idx0 t, rowOf]

/-- The codes of the other columns. -/
theorem arr3 (c : Dev nD) : (dat0 V c).arrAt 3 cfg0.N
    = Cert.ReferenceIdeal.Gen.k0_pay7 (F := Ideal) (V c main_v0) (V c main_arg1) := by
  refine (dat0 V c).arrAt_eq_of_covers 3 _ (by decide +kernel) fun t _ y => ?_
  blk_simp
  rw [after0_3]
  simp only [outsAt0]
  frame_out
  rw [iblk0_u]
  refine Eq.trans (congrArg _ (eq_ix2 y)) ?_
  refine (Rows.tailCodes (iblk0 V c 0 t) (V c main_arg1) (V c main_v0) (y 0) (rowOf t (y 0)) (fun k => iblk0_row V c t (y 0) k) (y 1)).trans ?_
  blk_ext [idx0 t, rowOf]

/-- All codes side by side: 448 columns of the head, then the others. -/
def allCodes (X : FVec Ideal Cert.ReferenceIdeal.S6144x3584 .bf16) (U : FVec Ideal Cert.ReferenceIdeal.S3584x3584 .bf16) :
    IVec S6144x3584 8 := fun i =>
  if h : (i 1).val < 448 then Cert.ReferenceIdeal.Gen.k0_pay4 (F := Ideal) X U (ix2 (i 0) ⟨(i 1).val, h⟩)
  else Cert.ReferenceIdeal.Gen.k0_pay7 (F := Ideal) X U (ix2 (i 0) ⟨(i 1).val - 448, by have : (i 1).val < 3584 := (i 1).isLt; omega⟩)

/-- The scales: the head's in lane 0, the others' in every other lane. -/
def allScales (X : FVec Ideal Cert.ReferenceIdeal.S6144x3584 .bf16) (U : FVec Ideal Cert.ReferenceIdeal.S3584x3584 .bf16) :
    FVec Ideal S6144x128 .f32 := fun i =>
  if (i 1).val = 0 then Cert.ReferenceIdeal.Gen.k0_pay3 (F := Ideal) X U (ix2 (i 0) 0)
  else Cert.ReferenceIdeal.Gen.k0_pay6 (F := Ideal) X U (ix2 (i 0) 0)

theorem allCodes_head (X : FVec Ideal Cert.ReferenceIdeal.S6144x3584 .bf16) (U : FVec Ideal Cert.ReferenceIdeal.S3584x3584 .bf16)
    (i : S6144x3584.Idx) (R : Fin 6144) (j : Fin 448) (h0 : (i 0).val = R.val) (h1 : (i 1).val = j.val) :
    allCodes X U i = Cert.ReferenceIdeal.Gen.k0_pay4 (F := Ideal) X U (ix2 R j) := by
  have h : (i 1).val < 448 := by omega
  rw [allCodes, dif_pos h]
  exact congrArg₂ (fun a b => Cert.ReferenceIdeal.Gen.k0_pay4 (F := Ideal) X U (ix2 a b)) (Fin.ext h0) (Fin.ext h1)

theorem allCodes_tail (X : FVec Ideal Cert.ReferenceIdeal.S6144x3584 .bf16) (U : FVec Ideal Cert.ReferenceIdeal.S3584x3584 .bf16)
    (i : S6144x3584.Idx) (R : Fin 6144) (j : Fin 3136) (h0 : (i 0).val = R.val) (h1 : (i 1).val = 448 + j.val) :
    allCodes X U i = Cert.ReferenceIdeal.Gen.k0_pay7 (F := Ideal) X U (ix2 R j) := by
  have h : ¬ (i 1).val < 448 := by omega
  rw [allCodes, dif_neg h]
  exact congrArg₂ (fun a b => Cert.ReferenceIdeal.Gen.k0_pay7 (F := Ideal) X U (ix2 a b)) (Fin.ext h0) (Fin.ext (by show (i 1).val - 448 = _; omega))

theorem allScales_at (X : FVec Ideal Cert.ReferenceIdeal.S6144x3584 .bf16) (U : FVec Ideal Cert.ReferenceIdeal.S3584x3584 .bf16)
    (i : S6144x128.Idx) (R : Fin 6144) (l : Nat) (h0 : (i 0).val = R.val) (h1 : (i 1).val = l) :
    allScales X U i = if l = 0 then Cert.ReferenceIdeal.Gen.k0_pay3 (F := Ideal) X U (ix2 R 0)
      else Cert.ReferenceIdeal.Gen.k0_pay6 (F := Ideal) X U (ix2 R 0) := by
  subst h1
  obtain rfl : i 0 = R := Fin.ext h0
  rfl

/-- The array of all codes. -/
theorem arr4 (c : Dev nD) : (dat0 V c).arrAt 4 cfg0.N = allCodes (V c main_v0) (V c main_arg1) := by
  refine (dat0 V c).arrAt_eq_of_covers 4 _ (by decide +kernel) fun t _ y => ?_
  blk_simp
  rw [after0_4]
  simp only [outsAt0]
  frame_out
  rw [iblk0_u]
  canon_tiles x h using (View.cover_of_tiledBy _ ![256, 448] (by sl_kernel_rfl) y)
  · refine Eq.trans (congrArg _ (eq_ix2 x)) ?_
    refine (Rows.tailCodes (iblk0 V c 0 t) (V c main_arg1) (V c main_v0) (x 0) (rowOf t (x 0)) (fun k => iblk0_row V c t (x 0) k) (x 1)).trans ?_
    refine (allCodes_tail _ _ _ (rowOf t (x 0)) (x 1) ?_ ?_).symm
    · have hr : (rowOf t (x 0)).val = 256 * t.val + (x 0).val := rfl
      blk_simp [idx0 t]
      omega
    · blk_simp [idx0 t]
      omega
  · refine Eq.trans (congrArg _ (eq_ix2 x)) ?_
    refine (Rows.headCodes (iblk0 V c 0 t) (V c main_arg1) (V c main_v0) (x 0) (rowOf t (x 0)) (fun k => iblk0_row V c t (x 0) k) (x 1)).trans ?_
    refine (allCodes_head _ _ _ (rowOf t (x 0)) (x 1) ?_ ?_).symm
    · have hr : (rowOf t (x 0)).val = 256 * t.val + (x 0).val := rfl
      blk_simp [idx0 t]
      omega
    · blk_simp [idx0 t]
      omega

/-- The array of scales. -/
theorem arr5 (c : Dev nD) : (dat0 V c).arrAt 5 cfg0.N = allScales (V c main_v0) (V c main_arg1) := by
  refine (dat0 V c).arrAt_eq_of_covers 5 _ (by decide +kernel) fun t _ y => ?_
  blk_simp
  rw [after0_5]
  simp only [outsAt0]
  frame_out
  rw [iblk0_u]
  refine Eq.trans (congrArg _ (eq_ix2 y)) ?_
  refine (Rows.scales (y 0) _ _ (y 1)).trans ?_
  rw [Rows.headScale (iblk0 V c 0 t) (V c main_arg1) (V c main_v0) (y 0) (rowOf t (y 0)) (fun k => iblk0_row V c t (y 0) k) 0,
    Rows.tailScale (iblk0 V c 0 t) (V c main_arg1) (V c main_v0) (y 0) (rowOf t (y 0)) (fun k => iblk0_row V c t (y 0) k) 0]
  refine (allScales_at _ _ _ (rowOf t (y 0)) (y 1).val ?_ ?_).symm
  · have hr : (rowOf t (y 0)).val = 256 * t.val + (y 0).val := rfl
    blk_simp [idx0 t]
    omega
  · blk_simp [idx0 t]

end Cert.KernelIdeal.Arrays
-- ==== Proof.Value.Nibbles.lean ====
module

public import proofs.«01_k».proof.Proof.Gen.KernelIdeal.Skeleton
public import Idealize.ShloMosaic.Lib.Pointwise
public import Idealize.ShloMosaic.Lib.BitcastFour

@[expose] public section

set_option maxRecDepth 16384

noncomputable section

/-! Two signed nibbles sit in one byte. The kernel decodes four bytes at a time in one 32-bit word; here each byte of the
word is shown to be the byte decoded alone. -/

namespace Cert.Nibbles

open Idealize.ShloMosaic Idealize.ShloMosaic.TcCoe

/-- A nibble `0 … 15` read as a signed number `-8 … 7`. -/
def signed (n : BitVec 8) : BitVec 8 := Scalar.select (IntOp.cmpi .sge n 8#8) (IntOp.subi n 16#8) n

/-- The low nibble of a byte, signed. -/
def low (b : BitVec 8) : BitVec 8 := signed ((IntOp.andi (b.setWidth 32) 15#32).setWidth 8)

/-- The high nibble of a byte, signed. -/
def high (b : BitVec 8) : BitVec 8 := signed ((IntOp.shrsi .vector (b.setWidth 32) 4#32).setWidth 8)

/-- The sign of a nibble restored by bits, in one byte. -/
theorem low_bits : ∀ b : BitVec 8, (((((b &&& 15#8) ^^^ 8#8) ||| 128#8) - 8#8) ^^^ 128#8) = low b := by
  decide +kernel

/-- The same for the high nibble. -/
theorem high_bits : ∀ b : BitVec 8, ((((((b >>> 4) &&& 15#8) ^^^ 8#8) ||| 128#8) - 8#8) ^^^ 128#8) = high b := by
  decide +kernel

/-- Subtracting 8 in every byte of a word whose bytes all have their top bit set borrows nothing across bytes. -/
theorem sub_byte (V : BitVec 32) (p : Nat) (hp : p < 4) :
    ((V ||| 2155905152#32) - 134744072#32).extractLsb' (8 * p) 8 = (V ||| 2155905152#32).extractLsb' (8 * p) 8 - 8#8 := by
  have hbit (i : Nat) (hi : i = 7 ∨ i = 15 ∨ i = 23 ∨ i = 31) : (V ||| 2155905152#32).getLsbD i = true := by
    rcases hi with rfl | rfl | rfl | rfl <;> simp [BitVec.getLsbD_or]
  generalize V ||| 2155905152#32 = X at hbit ⊢
  have hX := X.isLt
  have h7 := hbit 7 (by omega)
  have h15 := hbit 15 (by omega)
  have h23 := hbit 23 (by omega)
  have h31 := hbit 31 (by omega)
  rw [BitVec.getLsbD, Nat.testBit_eq_decide_div_mod_eq, decide_eq_true_eq] at h7 h15 h23 h31
  apply BitVec.eq_of_toNat_eq
  rw [BitVec.extractLsb'_toNat, BitVec.toNat_sub, BitVec.toNat_sub, BitVec.extractLsb'_toNat, Nat.shiftRight_eq_div_pow,
    Nat.shiftRight_eq_div_pow]
  have e1 : (134744072#32 : BitVec 32).toNat = 134744072 := rfl
  have e2 : (8#8 : BitVec 8).toNat = 8 := rfl
  rw [e1, e2]
  generalize X.toNat = n at *
  rcases (by omega : p = 0 ∨ p = 1 ∨ p = 2 ∨ p = 3) with rfl | rfl | rfl | rfl <;> norm_num at * <;> omega

/-- The four low nibbles of a word, decoded at once. -/
def lowWord (W : BitVec 32) : BitVec 32 :=
  ((((W &&& 252645135#32) ^^^ 134744072#32) ||| 2155905152#32) - 134744072#32) ^^^ 2155905152#32

/-- The four high nibbles of a word, decoded at once. -/
def highWord (W : BitVec 32) : BitVec 32 :=
  (((((W >>> 4) &&& 252645135#32) ^^^ 134744072#32) ||| 2155905152#32) - 134744072#32) ^^^ 2155905152#32

/-- The constants of the word decoders are one byte repeated. -/
theorem const_byte (p : Nat) (hp : p < 4) :
    (252645135#32).extractLsb' (8 * p) 8 = 15#8 ∧ (134744072#32).extractLsb' (8 * p) 8 = 8#8
      ∧ (2155905152#32).extractLsb' (8 * p) 8 = 128#8 := by
  rcases (by omega : p = 0 ∨ p = 1 ∨ p = 2 ∨ p = 3) with rfl | rfl | rfl | rfl <;> decide

/-- A word moved down by four bits and masked to low nibbles: each byte is the byte moved down by four bits and masked. -/
theorem shift_byte (W : BitVec 32) (p : Nat) (hp : p < 4) :
    ((W >>> 4) &&& 252645135#32).extractLsb' (8 * p) 8 = ((W.extractLsb' (8 * p) 8) >>> 4) &&& 15#8 := by
  rcases (by omega : p = 0 ∨ p = 1 ∨ p = 2 ∨ p = 3) with rfl | rfl | rfl | rfl <;>
  · apply BitVec.eq_of_getLsbD_eq
    intro q hq
    interval_cases q <;> simp

theorem lowWord_byte (W : BitVec 32) (p : Nat) (hp : p < 4) :
    (lowWord W).extractLsb' (8 * p) 8 = low (W.extractLsb' (8 * p) 8) := by
  obtain ⟨h1, h2, h3⟩ := const_byte p hp
  rw [← low_bits, lowWord, BitVec.extractLsb'_xor, sub_byte _ p hp, BitVec.extractLsb'_or, BitVec.extractLsb'_xor,
    BitVec.extractLsb'_and, h1, h2, h3]

theorem highWord_byte (W : BitVec 32) (p : Nat) (hp : p < 4) :
    (highWord W).extractLsb' (8 * p) 8 = high (W.extractLsb' (8 * p) 8) := by
  obtain ⟨h1, h2, h3⟩ := const_byte p hp
  rw [← high_bits, highWord, BitVec.extractLsb'_xor, sub_byte _ p hp, BitVec.extractLsb'_or, BitVec.extractLsb'_xor,
    shift_byte W p hp, h2, h3]

/-- Words read as bytes: row `k` of the bytes is byte `k % 4` of word row `k / 4`. -/
theorem bytes_of_words {R r n : Nat} (x : (⟨2, ![r, n]⟩ : Shape).Idx → BitVec 32)
    (h : (⟨2, ![r, n]⟩ : Shape).Bitcasts 32 ⟨2, ![R, n]⟩ 8) (k : Fin R) (c : Fin n) (w : Fin r) (hw : w.val = k.val / 4) :
    bitcast ⟨2, ![R, n]⟩ 8 x h (ix2 k c) = (x (ix2 w c)).extractLsb' (8 * (k.val % 4)) 8 := by
  apply BitVec.eq_of_getLsbD_eq
  intro q hq
  rw [bitcast_getLsbD x h _ q hq (by decide), BitVec.getLsbD_extractLsb', decide_eq_true hq, Bool.true_and]
  have hr : (⟨2, ![R, n]⟩ : Shape).row (ix2 k c) = k.val := rfl
  have hm : ((⟨2, ![R, n]⟩ : Shape).row (ix2 k c) * 8 + q) % 32 = 8 * (k.val % 4) + q := by rw [hr]; omega
  rw [hm]
  congr 2
  funext a
  match a with
  | ⟨0, _⟩ => exact Fin.ext ((h.srcIdx_row _ _ _ ⟨0, Nat.zero_lt_two⟩ rfl).trans (by rw [hr]; show _ = w.val; omega))
  | ⟨1, _⟩ => exact Fin.ext (h.srcIdx_other _ _ _ ⟨1, Nat.one_lt_two⟩ (by show ¬ 1 + 2 = 2; omega))

/-- Bytes read as words: byte `k % 4` of word row `k / 4` is row `k` of the bytes. -/
theorem word_byte {R r n : Nat} (x : (⟨2, ![R, n]⟩ : Shape).Idx → BitVec 8)
    (h : (⟨2, ![R, n]⟩ : Shape).Bitcasts 8 ⟨2, ![r, n]⟩ 32) (k : Fin R) (c : Fin n) (w : Fin r) (hw : w.val = k.val / 4) :
    (bitcast ⟨2, ![r, n]⟩ 32 x h (ix2 w c)).extractLsb' (8 * (k.val % 4)) 8 = x (ix2 k c) := by
  apply BitVec.eq_of_getLsbD_eq
  intro q hq
  rw [BitVec.getLsbD_extractLsb', decide_eq_true hq, Bool.true_and]
  refine (bitcast_8_32_getLsbD_ix2 x h w c (8 * (k.val % 4) + q) (by omega) k (by omega)).trans ?_
  rw [show (8 * (k.val % 4) + q) % 8 = q by omega]
  rfl

/-- The kernel's low nibbles, as bf16 numbers. -/
theorem pay_low (wl : Vec Ideal Cert.KernelIdeal.S1568x512 .i8) (k : Fin 1568) (c : Fin 512) :
    Cert.KernelIdeal.Gen.k1_pay7 (F := Ideal) (Cert.KernelIdeal.Gen.k1_pay6 wl) (ix2 k c)
      = FloatOps.sitofp (F := Ideal) .bf16 (low (wl (ix2 k c))) := by
  pointwise [Cert.KernelIdeal.Gen.k1_pay7, Cert.KernelIdeal.Gen.k1_pay6]
  obtain ⟨w, hw⟩ : ∃ w : Fin 392, w.val = k.val / 4 := ⟨⟨k.val / 4, by omega⟩, rfl⟩
  refine congrArg (FloatOps.sitofp (F := Ideal) (w := 8) FTy.bf16) ?_
  refine (bytes_of_words (R := 1568) (r := 392) (n := 512) _ _ k c w hw).trans ?_
  refine Eq.trans ?_ (congrArg low (word_byte wl Cert.KernelIdeal.Gen.bitcasts_S1568x512_w8_S392x512_w32 k c w hw))
  exact lowWord_byte (bitcast Cert.KernelIdeal.S392x512 32 wl Cert.KernelIdeal.Gen.bitcasts_S1568x512_w8_S392x512_w32 (ix2 w c)) (k.val % 4) (by omega)

/-- The kernel's high nibbles, as bf16 numbers. -/
theorem pay_high (wl : Vec Ideal Cert.KernelIdeal.S1568x512 .i8) (k : Fin 1568) (c : Fin 512) :
    Cert.KernelIdeal.Gen.k1_pay8 (F := Ideal) (Cert.KernelIdeal.Gen.k1_pay5 wl) (ix2 k c)
      = FloatOps.sitofp (F := Ideal) .bf16 (high (wl (ix2 k c))) := by
  pointwise [Cert.KernelIdeal.Gen.k1_pay8, Cert.KernelIdeal.Gen.k1_pay5]
  obtain ⟨w, hw⟩ : ∃ w : Fin 392, w.val = k.val / 4 := ⟨⟨k.val / 4, by omega⟩, rfl⟩
  refine congrArg (FloatOps.sitofp (F := Ideal) (w := 8) FTy.bf16) ?_
  refine (bytes_of_words (R := 1568) (r := 392) (n := 512) _ _ k c w hw).trans ?_
  refine Eq.trans ?_ (congrArg high (word_byte wl Cert.KernelIdeal.Gen.bitcasts_S1568x512_w8_S392x512_w32 k c w hw))
  exact highWord_byte (bitcast Cert.KernelIdeal.S392x512 32 wl Cert.KernelIdeal.Gen.bitcasts_S1568x512_w8_S392x512_w32 (ix2 w c)) (k.val % 4) (by omega)

end Cert.Nibbles
-- ==== Proof.Value.Weights.lean ====
module

public import proofs.«01_k».proof.Proof.KernelIdeal.Region1Data
public import proofs.«01_k».proof.Proof.Value.Nibbles
public import Idealize.ShloMosaic.Lib.Pipeline.ValueKit

@[expose] public section

set_option maxRecDepth 16384

noncomputable section

/-! The weights the second call keeps in its scratch: decoded once per column block, and carried over its three row blocks. -/

namespace Cert.KernelIdeal.Arrays

open Cert.KernelIdeal Cert.KernelIdeal.Gen Cert.KernelIdeal.Own
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The weights of one column block as the scratch holds them: the int8 rows, 256 rows of zeros, the low nibbles, the
high nibbles. -/
def weights (wh : Vec Ideal S448x512 .i8) (wl : Vec Ideal S1568x512 .i8) : FVec Ideal S3840x512 .bf16 := fun i =>
  if h : (i 0).val < 448 then FloatOps.sitofp (F := Ideal) (w := 8) .bf16 (wh (ix2 ⟨(i 0).val, h⟩ (i 1)))
  else if (i 0).val < 704 then (0 : EReal)
  else if h : (i 0).val < 2272 then
    FloatOps.sitofp (F := Ideal) (w := 8) .bf16 (Nibbles.low (wl (ix2 ⟨(i 0).val - 704, by omega⟩ (i 1))))
  else FloatOps.sitofp (F := Ideal) (w := 8) .bf16
    (Nibbles.high (wl (ix2 ⟨(i 0).val - 2272, by have : (i 0).val < 3840 := (i 0).isLt; omega⟩ (i 1))))

theorem weights_head (wh : Vec Ideal S448x512 .i8) (wl : Vec Ideal S1568x512 .i8) (i : S3840x512.Idx) (k : Fin 448) (j : Fin 512)
    (h0 : (i 0).val = k.val) (h1 : (i 1).val = j.val) :
    weights wh wl i = FloatOps.sitofp (F := Ideal) (w := 8) .bf16 (wh (ix2 k j)) := by
  have h : (i 0).val < 448 := by omega
  rw [weights, dif_pos h]
  exact congrArg₂ (fun a b => FloatOps.sitofp (F := Ideal) (w := 8) .bf16 (wh (ix2 a b))) (Fin.ext h0) (Fin.ext h1)

theorem weights_zero (wh : Vec Ideal S448x512 .i8) (wl : Vec Ideal S1568x512 .i8) (i : S3840x512.Idx)
    (h0 : 448 ≤ (i 0).val) (h1 : (i 0).val < 704) : weights wh wl i = (0 : EReal) := by
  rw [weights, dif_neg (by omega), if_pos h1]

theorem weights_low (wh : Vec Ideal S448x512 .i8) (wl : Vec Ideal S1568x512 .i8) (i : S3840x512.Idx) (k : Fin 1568) (j : Fin 512)
    (h0 : (i 0).val = 704 + k.val) (h1 : (i 1).val = j.val) :
    weights wh wl i = FloatOps.sitofp (F := Ideal) (w := 8) .bf16 (Nibbles.low (wl (ix2 k j))) := by
  have h : (i 0).val < 2272 := by omega
  rw [weights, dif_neg (by omega), if_neg (by omega), dif_pos h]
  exact congrArg₂ (fun a b => FloatOps.sitofp (F := Ideal) (w := 8) .bf16 (Nibbles.low (wl (ix2 a b))))
    (Fin.ext (by show (i 0).val - 704 = _; omega)) (Fin.ext h1)

theorem weights_high (wh : Vec Ideal S448x512 .i8) (wl : Vec Ideal S1568x512 .i8) (i : S3840x512.Idx) (k : Fin 1568) (j : Fin 512)
    (h0 : (i 0).val = 2272 + k.val) (h1 : (i 1).val = j.val) :
    weights wh wl i = FloatOps.sitofp (F := Ideal) (w := 8) .bf16 (Nibbles.high (wl (ix2 k j))) := by
  rw [weights, dif_neg (by omega), if_neg (by omega), dif_neg (by omega)]
  exact congrArg₂ (fun a b => FloatOps.sitofp (F := Ideal) (w := 8) .bf16 (Nibbles.high (wl (ix2 a b))))
    (Fin.ext (by show (i 0).val - 2272 = _; omega)) (Fin.ext h1)

/-- The rows of zeros. -/
theorem pay_zero (r : Fin 256) (j : Fin 512) : k1_pay3 (F := Ideal) (ix2 r j) = (0 : EReal) := by
  pointwise [k1_pay3]

/-- The int8 weights. -/
theorem pay_head (wh : Vec Ideal S448x512 .i8) (r : Fin 448) (j : Fin 512) :
    k1_pay2 (F := Ideal) wh (ix2 r j) = FloatOps.sitofp (F := Ideal) (w := 8) .bf16 (wh (ix2 r j)) := by
  pointwise [k1_pay2]

/-- What the four stores leave in the scratch. -/
theorem canon_weights (wh : Vec Ideal S448x512 .i8) (wl : Vec Ideal S1568x512 .i8) :
    View.canon (Val := Elt Ideal) (s := S3840x512) (e := .bf16)
      ([⟨Rect.unit ![2272, 0] ![1568, 512] inb_S3840x512_S1568x512_2272_0, k1_pay8 (F := Ideal) (k1_pay5 (F := Ideal) wl)⟩,
        ⟨Rect.unit ![704, 0] ![1568, 512] inb_S3840x512_S1568x512_704_0, k1_pay7 (F := Ideal) (k1_pay6 (F := Ideal) wl)⟩,
        ⟨Rect.unit ![448, 0] ![256, 512] inb_S3840x512_S256x512_448_0, k1_pay3 (F := Ideal)⟩,
        ⟨Rect.unit ![0, 0] ![448, 512] inb_S3840x512_S448x512_0_0, k1_pay2 (F := Ideal) wh⟩] : List (View.Piece (Elt Ideal) S3840x512 .bf16)) = weights wh wl := by
  funext y
  canon_tiles x h using (View.cover_of_tiledBy _ ![32, 512] (by sl_kernel_rfl) y)
  · exact (congrArg _ (eq_ix2 x)).trans ((Nibbles.pay_high wl (x 0) (x 1)).trans (weights_high wh wl y (x 0) (x 1) h0 h1).symm)
  · exact (congrArg _ (eq_ix2 x)).trans ((Nibbles.pay_low wl (x 0) (x 1)).trans (weights_low wh wl y (x 0) (x 1) h0 h1).symm)
  · exact (congrArg _ (eq_ix2 x)).trans ((pay_zero (x 0) (x 1)).trans (weights_zero wh wl y (by omega) (by omega)).symm)
  · exact (congrArg _ (eq_ix2 x)).trans ((pay_head wh (x 0) (x 1)).trans (weights_head wh wl y (x 0) (x 1) h0 h1).symm)

/-- The block indices of the second call's windows: column block `t / 3`, row block `t % 3`. -/
theorem idx1 : ∀ t : Fin cfg1.N, win1_0.index t = ![t.val % 3, 0] ∧ win1_1.index t = ![t.val % 3, 0]
    ∧ win1_2.index t = ![0, t.val / 3] ∧ win1_3.index t = ![0, t.val / 3] ∧ win1_4.index t = ![0, t.val / 3]
    ∧ win1_5.index t = ![0, t.val / 3] ∧ win1_6.index t = ![t.val % 3, t.val / 3] :=
  (by decide +kernel : ∀ t : Fin grid1.N, _)

/-- The scratch after the first row block of a column block. -/
theorem scratchA (c : Dev nD) (t : Fin cfg1.N) (h0 : t.val % 3 = 0) :
    (outsAt1 V c t.val t.isLt).2 = weights (iblk1 V c 2 t) (iblk1 V c 4 t) := by
  rw [outsAt1_A V c t h0]
  dsimp only
  funext y
  frame_out
  exact congrFun (canon_weights _ _) y

/-- The row of all activations that row `r` of the row block of point `t` is. -/
def rowAt (t : Fin cfg1.N) (r : Fin 2048) : Fin 6144 := ⟨2048 * (t.val % 3) + r.val, by omega⟩

/-- The column of the whole weights that column `j` of the column block of point `t` is. -/
def colAt (t : Fin cfg1.N) (j : Fin 512) : Fin 9728 :=
  ⟨512 * (t.val / 3) + j.val, by have : t.val < 57 := t.isLt; omega⟩

theorem iblk1_wh (c : Dev nD) (t : Fin cfg1.N) (k : Fin 448) (j : Fin 512) :
    iblk1 V c 2 t (ix2 k j) = V c main_arg2 (ix2 k (colAt t j)) := by
  blk_ext [iblk1, idx1 t, colAt]

theorem iblk1_whs (c : Dev nD) (t : Fin cfg1.N) (k : Fin 1) (j : Fin 512) :
    iblk1 V c 3 t (ix2 k j) = V c main_v2 (ix2 k (colAt t j)) := by
  blk_ext [iblk1, idx1 t, colAt]

theorem iblk1_wl (c : Dev nD) (t : Fin cfg1.N) (k : Fin 1568) (j : Fin 512) :
    iblk1 V c 4 t (ix2 k j) = V c main_arg4 (ix2 k (colAt t j)) := by
  blk_ext [iblk1, idx1 t, colAt]

theorem iblk1_wls (c : Dev nD) (t : Fin cfg1.N) (k : Fin 1) (j : Fin 512) :
    iblk1 V c 5 t (ix2 k j) = V c main_v3 (ix2 k (colAt t j)) := by
  blk_ext [iblk1, idx1 t, colAt]

theorem iblk1_codes (c : Dev nD) (t : Fin cfg1.N) (r : Fin 2048) (k : Fin 3584) :
    iblk1 V c 0 t (ix2 r k) = V c main_v1_2 (ix2 (rowAt t r) k) := by
  blk_ext [iblk1, idx1 t, rowAt]

theorem iblk1_scales (c : Dev nD) (t : Fin cfg1.N) (r : Fin 2048) (l : Fin 128) :
    iblk1 V c 1 t (ix2 r l) = V c main_v1_3 (ix2 (rowAt t r) l) := by
  blk_ext [iblk1, idx1 t, rowAt]

/-- Two points of one column block see the same weights. -/
theorem weights_same (c : Dev nD) (s t : Fin cfg1.N) (h : s.val / 3 = t.val / 3) :
    weights (iblk1 V c 2 s) (iblk1 V c 4 s) = weights (iblk1 V c 2 t) (iblk1 V c 4 t) := by
  have hc (j : Fin 512) : colAt s j = colAt t j := Fin.ext (by show 512 * (s.val / 3) + _ = 512 * (t.val / 3) + _; rw [h])
  have h2 : iblk1 V c 2 s = iblk1 V c 2 t := funext fun i => (congrArg (iblk1 V c 2 s) (eq_ix2 (n0 := 448) (n1 := 512) i)).trans <|
    (iblk1_wh V c s (i 0) (i 1)).trans <| (congrArg (fun C => V c main_arg2 (ix2 (n0 := 448) (i 0) C)) (hc (i 1))).trans <|
      (iblk1_wh V c t (i 0) (i 1)).symm.trans (congrArg (iblk1 V c 2 t) (eq_ix2 (n0 := 448) (n1 := 512) i).symm)
  have h4 : iblk1 V c 4 s = iblk1 V c 4 t := funext fun i => (congrArg (iblk1 V c 4 s) (eq_ix2 (n0 := 1568) (n1 := 512) i)).trans <|
    (iblk1_wl V c s (i 0) (i 1)).trans <| (congrArg (fun C => V c main_arg4 (ix2 (n0 := 1568) (i 0) C)) (hc (i 1))).trans <|
      (iblk1_wl V c t (i 0) (i 1)).symm.trans (congrArg (iblk1 V c 4 t) (eq_ix2 (n0 := 1568) (n1 := 512) i).symm)
  rw [h2, h4]

/-- The scratch after every point holds the weights of that point's column block. -/
theorem scratch_at (c : Dev nD) : ∀ (n : Nat) (hn : n < cfg1.N),
    (outsAt1 V c n hn).2 = weights (iblk1 V c 2 ⟨n, hn⟩) (iblk1 V c 4 ⟨n, hn⟩) := by
  intro n
  induction n with
  | zero => exact fun hn => scratchA V c ⟨0, hn⟩ rfl
  | succ m ih =>
    intro hn
    by_cases h0 : (m + 1) % 3 = 0
    · exact scratchA V c ⟨m + 1, hn⟩ h0
    · refine (congrArg Prod.snd (outsAt1_B V c ⟨m + 1, hn⟩ h0)).trans ?_
      refine (ih (by omega)).trans ?_
      exact weights_same V c _ _ (by show m / 3 = (m + 1) / 3; omega)

end Cert.KernelIdeal.Arrays
-- ==== Proof.Value.Chunk.lean ====
module

public import proofs.«01_k».proof.Proof.Gen.KernelIdeal.Skeleton
public import proofs.«01_k».proof.Proof.Gen.ReferenceIdeal.Skeleton
public import proofs.«01_k».proof.Proof.Value.Nibbles
public import Idealize.ShloMosaic.Lib.Pointwise

@[expose] public section

set_option maxRecDepth 16384

noncomputable section

/-! One chunk of 256 rows of the second call: every chunk is the same arithmetic, and the zero rows of the scratch make
its two products the reference's three. -/

namespace Cert.Chunk

open Cert.KernelIdeal.Gen Cert.KernelIdeal
open Idealize.ShloMosaic Idealize.ShloMosaic.TcCoe

variable (K : IVec S256x3584 8) (W1 : FVec Ideal S512x512 .bf16) (W2 : FVec Ideal S3328x512 .bf16)
variable (hs ls : FVec Ideal S256x1 .f32) (whs wls : FVec Ideal S1x512 .f32)

/-- The eight row chunks of a point are computed alike. -/
theorem pay11 : k1_pay11 (F := Ideal) (k1_pay10 (F := Ideal) K) W1 W2 hs ls whs wls = k1_pay9 (F := Ideal) K W1 W2 hs ls whs wls := rfl
theorem pay15 : k1_pay15 (F := Ideal) (k1_pay13 (F := Ideal) K W1) (k1_pay14 (F := Ideal) K W2) hs ls whs wls = k1_pay9 (F := Ideal) K W1 W2 hs ls whs wls := rfl
theorem pay22 : k1_pay22 (F := Ideal) (k1_pay17 (F := Ideal) K W1) (k1_pay18 (F := Ideal) K W2) (k1_pay19 (F := Ideal) ls) (k1_pay20 (F := Ideal) hs) (k1_pay21 (F := Ideal) whs) wls
    = k1_pay9 (F := Ideal) K W1 W2 hs ls whs wls := rfl
theorem pay23 : k1_pay23 (F := Ideal) K W1 W2 hs ls whs wls = k1_pay9 (F := Ideal) K W1 W2 hs ls whs wls := rfl
theorem pay24 : k1_pay24 (F := Ideal) K W1 W2 hs ls whs wls = k1_pay9 (F := Ideal) K W1 W2 hs ls whs wls := rfl
theorem pay27 : k1_pay27 (F := Ideal) (k1_pay25 (F := Ideal) K) (k1_pay26 (F := Ideal) K) W1 (constant S256x512 .f32 0x00000000#32) W2 hs ls whs wls = k1_pay9 (F := Ideal) K W1 W2 hs ls whs wls := rfl
theorem pay1 : k1_pay1 (F := Ideal) (k1_pay29 (F := Ideal) K W1) (k1_pay30 (F := Ideal) K W2) (k1_pay31 (F := Ideal) hs) ls whs wls = k1_pay9 (F := Ideal) K W1 W2 hs ls whs wls := rfl

/-- One chunk at one place. -/
theorem pay9 (r : Fin 256) (j : Fin 512) : k1_pay9 (F := Ideal) K W1 W2 hs ls whs wls (ix2 r j)
    = hs (ix2 r 0) * whs (ix2 0 j) * (∑ k : Fin 512, FloatOps.sitofp (F := Ideal) (w := 8) .bf16 (K (ix2 r ⟨k.val, by omega⟩)) * W1 (ix2 k j))
      + ls (ix2 r 0) * wls (ix2 0 j) * (∑ k : Fin 3328, FloatOps.sitofp (F := Ideal) (w := 8) .bf16 (K (ix2 r ⟨256 + k.val, by omega⟩)) * W2 (ix2 k j)) := by
  pointwise [k1_pay9]

/-- The reference's result at one place. -/
theorem refY (v13 v31 : FVec Ideal Cert.ReferenceIdeal.S6144x1 .f32) (xh : IVec Cert.ReferenceIdeal.S6144x448 8)
    (xl : IVec Cert.ReferenceIdeal.S6144x3136 8) (wh : IVec Cert.ReferenceIdeal.S448x9728 8)
    (wl : IVec Cert.ReferenceIdeal.S1568x9728 8) (whs wls : FVec Ideal Cert.ReferenceIdeal.S1x9728 .f32)
    (R : Fin 6144) (C : Fin 9728) :
    Cert.ReferenceIdeal.Gen.k0_pay9 v13 v31 xl (sitofp (F := Ideal) .bf16 xh) wh wl whs wls (ix2 R C)
    = v13 (ix2 R 0) * whs (ix2 0 C) * (∑ k : Fin 448, FloatOps.sitofp (F := Ideal) (w := 8) .bf16 (xh (ix2 R k)) * FloatOps.sitofp (F := Ideal) (w := 8) .bf16 (wh (ix2 k C)))
      + v31 (ix2 R 0) * wls (ix2 0 C) * ((∑ k : Fin 1568, FloatOps.sitofp (F := Ideal) (w := 8) .bf16 (xl (ix2 R ⟨k.val, by omega⟩))
          * FloatOps.sitofp (F := Ideal) (w := 8) .bf16 (Nibbles.low (wl (ix2 k C))))
        + ∑ k : Fin 1568, FloatOps.sitofp (F := Ideal) (w := 8) .bf16 (xl (ix2 R ⟨1568 + k.val, by omega⟩))
          * FloatOps.sitofp (F := Ideal) (w := 8) .bf16 (Nibbles.high (wl (ix2 k C)))) := by
  pointwise [Cert.ReferenceIdeal.Gen.k0_pay9, Nibbles.low, Nibbles.high, Nibbles.signed]

/-- A sum over 512 rows of which the last 64 vanish. -/
theorem sum512 (f : Fin 512 → EReal) (h : ∀ k : Fin 512, 448 ≤ k.val → f k = 0) :
    (∑ k : Fin 512, f k) = ∑ k : Fin 448, f ⟨k.val, by omega⟩ := by
  refine (Fin.sum_univ_add (M := EReal) (a := 448) (b := 64) f).trans ?_
  rw [Finset.sum_eq_zero fun (k : Fin 64) _ => h (Fin.natAdd 448 k) (by show 448 ≤ 448 + k.val; omega), add_zero]
  rfl

/-- A sum over 3328 rows of which the first 192 vanish, the rest in two halves. -/
theorem sum3328 (f : Fin 3328 → EReal) (h : ∀ k : Fin 3328, k.val < 192 → f k = 0) :
    (∑ k : Fin 3328, f k) = (∑ k : Fin 1568, f ⟨192 + k.val, by omega⟩) + ∑ k : Fin 1568, f ⟨1760 + k.val, by omega⟩ := by
  refine (Fin.sum_univ_add (M := EReal) (a := 1760) (b := 1568) f).trans ?_
  refine congrArg (· + ∑ k : Fin 1568, f ⟨1760 + k.val, by omega⟩) ?_
  refine (Fin.sum_univ_add (M := EReal) (a := 192) (b := 1568) fun k : Fin 1760 => f ⟨k.val, by omega⟩).trans ?_
  rw [Finset.sum_eq_zero fun (k : Fin 192) _ => h _ (show k.val < 192 from k.isLt), zero_add]
  rfl

/-- A chunk whose inputs are pieces of the reference's arrays gives a piece of the reference's result. -/
theorem chunk (r : Fin 256) (j : Fin 512) (R : Fin 6144) (C : Fin 9728)
    (v13 v31 : FVec Ideal Cert.ReferenceIdeal.S6144x1 .f32) (xh : IVec Cert.ReferenceIdeal.S6144x448 8)
    (xl : IVec Cert.ReferenceIdeal.S6144x3136 8) (wh : IVec Cert.ReferenceIdeal.S448x9728 8)
    (wl : IVec Cert.ReferenceIdeal.S1568x9728 8) (whs' wls' : FVec Ideal Cert.ReferenceIdeal.S1x9728 .f32)
    (hhs : hs (ix2 r 0) = v13 (ix2 R 0)) (hls : ls (ix2 r 0) = v31 (ix2 R 0))
    (hwhs : whs (ix2 0 j) = whs' (ix2 0 C)) (hwls : wls (ix2 0 j) = wls' (ix2 0 C))
    (hxh : ∀ k : Fin 448, K (ix2 r ⟨k.val, by omega⟩) = xh (ix2 R k))
    (hxl : ∀ k : Fin 3136, K (ix2 r ⟨448 + k.val, by omega⟩) = xl (ix2 R k))
    (hw1 : ∀ k : Fin 448, W1 (ix2 ⟨k.val, by omega⟩ j) = FloatOps.sitofp (F := Ideal) (w := 8) .bf16 (wh (ix2 k C)))
    (hz1 : ∀ k : Fin 512, 448 ≤ k.val → W1 (ix2 k j) = (0 : EReal))
    (hz2 : ∀ k : Fin 3328, k.val < 192 → W2 (ix2 k j) = (0 : EReal))
    (hlow : ∀ k : Fin 1568, W2 (ix2 ⟨192 + k.val, by omega⟩ j)
      = FloatOps.sitofp (F := Ideal) (w := 8) .bf16 (Nibbles.low (wl (ix2 k C))))
    (hhigh : ∀ k : Fin 1568, W2 (ix2 ⟨1760 + k.val, by omega⟩ j)
      = FloatOps.sitofp (F := Ideal) (w := 8) .bf16 (Nibbles.high (wl (ix2 k C)))) :
    k1_pay9 (F := Ideal) K W1 W2 hs ls whs wls (ix2 r j)
      = Cert.ReferenceIdeal.Gen.k0_pay9 v13 v31 xl (sitofp (F := Ideal) .bf16 xh) wh wl whs' wls' (ix2 R C) := by
  refine (pay9 K W1 W2 hs ls whs wls r j).trans (Eq.trans ?_ (refY v13 v31 xh xl wh wl whs' wls' R C).symm)
  rw [hhs, hls, hwhs, hwls]
  refine congrArg₂ (fun a b : EReal => v13 (ix2 R 0) * whs' (ix2 0 C) * a + v31 (ix2 R 0) * wls' (ix2 0 C) * b) ?_ ?_
  · refine (sum512 _ fun k hk => ?_).trans (Finset.sum_congr rfl fun k _ => ?_)
    · rw [hz1 k hk]; exact mul_zero _
    · exact congrArg₂ (fun (a : BitVec 8) (b : EReal) => FloatOps.sitofp (F := Ideal) (w := 8) .bf16 a * b) (hxh k) (hw1 k)
  · refine (sum3328 _ fun k hk => ?_).trans (congrArg₂ (· + ·) (Finset.sum_congr rfl fun k _ => ?_) (Finset.sum_congr rfl fun k _ => ?_))
    · rw [hz2 k hk]; exact mul_zero _
    · refine congrArg₂ (fun (a : BitVec 8) (b : EReal) => FloatOps.sitofp (F := Ideal) (w := 8) .bf16 a * b) (Eq.trans ?_ (hxl ⟨k.val, by omega⟩)) (hlow k)
      exact congrArg (fun a => K (ix2 r a)) (Fin.ext (by show 256 + (192 + k.val) = 448 + k.val; omega))
    · refine congrArg₂ (fun (a : BitVec 8) (b : EReal) => FloatOps.sitofp (F := Ideal) (w := 8) .bf16 a * b) (Eq.trans ?_ (hxl ⟨1568 + k.val, by omega⟩)) (hhigh k)
      exact congrArg (fun a => K (ix2 r a)) (Fin.ext (by show 256 + (1760 + k.val) = 448 + (1568 + k.val); omega))

end Cert.Chunk
-- ==== Proof.Value.Product.lean ====
module

public import proofs.«01_k».proof.Proof.KernelIdeal.Region1Data
public import proofs.«01_k».proof.Proof.Value.Quantised
public import proofs.«01_k».proof.Proof.Value.Weights
public import proofs.«01_k».proof.Proof.Value.Chunk
public import Idealize.ShloMosaic.Lib.Pipeline.ValueKit
public import Idealize.ShloMosaic.Lib.Pipeline.ReadBack

@[expose] public section

set_option maxRecDepth 16384

noncomputable section

/-! The array the second call leaves: the product of codes and weights, written in terms of the reference's operations. -/

namespace Cert.KernelIdeal.Arrays

open Cert.KernelIdeal Cert.KernelIdeal.Gen Cert.KernelIdeal.Own
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The whole result as the reference writes it. -/
def product (X : FVec Ideal Cert.ReferenceIdeal.S6144x3584 .bf16) (U : FVec Ideal Cert.ReferenceIdeal.S3584x3584 .bf16)
    (wh : IVec Cert.ReferenceIdeal.S448x9728 8) (wl : IVec Cert.ReferenceIdeal.S1568x9728 8)
    (whs wls : FVec Ideal Cert.ReferenceIdeal.S1x9728 .f32) : FVec Ideal S6144x9728 .bf16 :=
  Cert.ReferenceIdeal.Gen.k0_pay9 (Cert.ReferenceIdeal.Gen.k0_pay3 (F := Ideal) X U) (Cert.ReferenceIdeal.Gen.k0_pay6 (F := Ideal) X U)
    (Cert.ReferenceIdeal.Gen.k0_pay7 (F := Ideal) X U) (sitofp (F := Ideal) .bf16 (Cert.ReferenceIdeal.Gen.k0_pay4 (F := Ideal) X U)) wh wl whs wls

/-- A load of 256 rows of codes. -/
theorem ld_codes (B : Vec Ideal S2048x3584 .i8) (o : Nat) (ho : o ≤ 1792) (inb) (r : Fin 256) (k : Fin 3584) :
    View.ld B (Rect.unit (s := S2048x3584) ![o, 0] ![256, 3584] inb) (ix2 r k) = B (ix2 ⟨o + r.val, by omega⟩ k) := by
  refine congrArg B (funext fun a => ?_)
  match a with
  | ⟨0, _⟩ => exact Fin.ext (by show o + 1 * r.val = o + r.val; omega)
  | ⟨1, _⟩ => exact Fin.ext (by show 0 + 1 * k.val = k.val; omega)

/-- A load of one lane of 256 rows of scales. -/
theorem ld_scales (B : Vec Ideal S2048x128 .f32) (o l : Nat) (ho : o ≤ 1792) (hl : l < 128) (inb) (r : Fin 256) (z : Fin 1) :
    View.ld B (Rect.unit (s := S2048x128) ![o, l] ![256, 1] inb) (ix2 r z) = B (ix2 ⟨o + r.val, by omega⟩ ⟨l, hl⟩) := by
  refine congrArg B (funext fun a => ?_)
  match a with
  | ⟨0, _⟩ => exact Fin.ext (by show o + 1 * r.val = o + r.val; omega)
  | ⟨1, _⟩ => exact Fin.ext (by show l + 1 * z.val = l; omega)

/-- A load of the first 512 scratch rows. -/
theorem ld_first (B : Vec Ideal S3840x512 .bf16) (inb) (k : Fin 512) (j : Fin 512) :
    View.ld B (Rect.unit (s := S3840x512) ![0, 0] ![512, 512] inb) (ix2 k j) = B (ix2 ⟨k.val, by omega⟩ j) := by
  refine congrArg B (funext fun a => ?_)
  match a with
  | ⟨0, _⟩ => exact Fin.ext (by show 0 + 1 * k.val = k.val; omega)
  | ⟨1, _⟩ => exact Fin.ext (by show 0 + 1 * j.val = j.val; omega)

/-- A load of the other scratch rows. -/
theorem ld_second (B : Vec Ideal S3840x512 .bf16) (inb) (k : Fin 3328) (j : Fin 512) :
    View.ld B (Rect.unit (s := S3840x512) ![512, 0] ![3328, 512] inb) (ix2 k j) = B (ix2 ⟨512 + k.val, by omega⟩ j) := by
  refine congrArg B (funext fun a => ?_)
  match a with
  | ⟨0, _⟩ => exact Fin.ext (by show 512 + 1 * k.val = 512 + k.val; omega)
  | ⟨1, _⟩ => exact Fin.ext (by show 0 + 1 * j.val = j.val; omega)

variable (c : Dev nD) (t : Fin cfg1.N)
variable (X : FVec Ideal Cert.ReferenceIdeal.S6144x3584 .bf16) (U : FVec Ideal Cert.ReferenceIdeal.S3584x3584 .bf16)
variable (hcodes : V c main_v1_2 = allCodes X U) (hscales : V c main_v1_3 = allScales X U)

include hcodes hscales in
/-- The chunk of rows from `o` of a point, at one place. -/
theorem chunk_at (o : Nat) (ho : o ≤ 1792) (S : FVec Ideal S3840x512 .bf16) (hS : S = weights (iblk1 V c 2 t) (iblk1 V c 4 t))
    (inb0) (inb1) (inb2) (inb3) (inb4) (y : S2048x512.Idx) (x : S256x512.Idx) (h0 : (y 0).val = o + (x 0).val) (h1 : (y 1).val = (x 1).val) :
    k1_pay9 (F := Ideal) (View.ld (iblk1 V c 0 t) (Rect.unit (s := S2048x3584) ![o, 0] ![256, 3584] inb0))
        (View.ld S (Rect.unit (s := S3840x512) ![0, 0] ![512, 512] inb3)) (View.ld S (Rect.unit (s := S3840x512) ![512, 0] ![3328, 512] inb4))
        (View.ld (iblk1 V c 1 t) (Rect.unit (s := S2048x128) ![o, 0] ![256, 1] inb1))
        (View.ld (iblk1 V c 1 t) (Rect.unit (s := S2048x128) ![o, 1] ![256, 1] inb2)) (iblk1 V c 3 t) (iblk1 V c 5 t) x
      = product X U (V c main_arg2) (V c main_arg4) (V c main_v2) (V c main_v3) (ix2 (rowAt t (y 0)) (colAt t (y 1))) := by
  subst hS
  obtain ⟨r, hr⟩ : ∃ r : Fin 256, r = x 0 := ⟨_, rfl⟩
  obtain ⟨j, hj⟩ : ∃ j : Fin 512, j = x 1 := ⟨_, rfl⟩
  have hx : x = ix2 r j := by rw [hr, hj]; exact eq_ix2 x
  subst hx
  have ey0 : y 0 = (⟨o + r.val, by omega⟩ : Fin 2048) := Fin.ext h0
  have ey1 : y 1 = j := Fin.ext h1
  rw [ey0, ey1]
  have hrow0 : V c main_v1_3 (ix2 (rowAt t ⟨o + r.val, by omega⟩) 0)
      = Cert.ReferenceIdeal.Gen.k0_pay3 (F := Ideal) X U (ix2 (rowAt t ⟨o + r.val, by omega⟩) 0) := by
    rw [hscales]
    exact (allScales_at X U _ (rowAt t ⟨o + r.val, by omega⟩) 0 rfl rfl).trans (if_pos rfl)
  have hrow1 : V c main_v1_3 (ix2 (rowAt t ⟨o + r.val, by omega⟩) 1)
      = Cert.ReferenceIdeal.Gen.k0_pay6 (F := Ideal) X U (ix2 (rowAt t ⟨o + r.val, by omega⟩) 0) := by
    rw [hscales]
    exact (allScales_at X U _ (rowAt t ⟨o + r.val, by omega⟩) 1 rfl rfl).trans (if_neg Nat.one_ne_zero)
  refine Chunk.chunk _ _ _ _ _ _ _ r j (rowAt t ⟨o + r.val, by omega⟩) (colAt t j) _ _ _ _ _ _ _ _ ?_ ?_ ?_ ?_ ?_ ?_ ?_ ?_ ?_ ?_ ?_
  · exact (ld_scales _ o 0 ho (by omega) _ r 0).trans ((iblk1_scales V c t _ _).trans hrow0)
  · exact (ld_scales _ o 1 ho (by omega) _ r 0).trans ((iblk1_scales V c t _ _).trans hrow1)
  · exact iblk1_whs V c t 0 j
  · exact iblk1_wls V c t 0 j
  · intro k
    refine (ld_codes _ o ho _ r _).trans ((iblk1_codes V c t _ _).trans ?_)
    rw [hcodes]
    exact allCodes_head X U _ _ k rfl rfl
  · intro k
    refine (ld_codes _ o ho _ r _).trans ((iblk1_codes V c t _ _).trans ?_)
    rw [hcodes]
    exact allCodes_tail X U _ _ k rfl rfl
  · intro k
    refine (ld_first _ _ _ j).trans ((weights_head _ _ _ k j rfl rfl).trans ?_)
    exact congrArg _ (iblk1_wh V c t k j)
  · intro k hk
    exact (ld_first _ _ _ j).trans (weights_zero _ _ _ hk (by show k.val < 704; omega))
  · intro k hk
    exact (ld_second _ _ _ j).trans (weights_zero _ _ _ (by show 448 ≤ 512 + k.val; omega) (by show 512 + k.val < 704; omega))
  · intro k
    refine (ld_second _ _ _ j).trans ((weights_low _ _ _ k j (by show 512 + (192 + k.val) = _; omega) rfl).trans ?_)
    exact congrArg (fun b => FloatOps.sitofp (F := Ideal) (w := 8) .bf16 (Nibbles.low b)) (iblk1_wl V c t k j)
  · intro k
    refine (ld_second _ _ _ j).trans ((weights_high _ _ _ k j (by show 512 + (1760 + k.val) = _; omega) rfl).trans ?_)
    exact congrArg (fun b => FloatOps.sitofp (F := Ideal) (w := 8) .bf16 (Nibbles.high b)) (iblk1_wl V c t k j)

include hcodes hscales in
/-- The block a point leaves when it has just decoded the weights. -/
theorem outA (h3 : t.val % 3 = 0) (y : S2048x512.Idx) : (outsAt1 V c t.val t.isLt).1 y
    = product X U (V c main_arg2) (V c main_arg4) (V c main_v2) (V c main_v3) (ix2 (rowAt t (y 0)) (colAt t (y 1))) := by
  rw [outsAt1_A V c t h3]
  dsimp only
  frame_out
  have e1 (L : List (View.Piece (Elt Ideal) S3840x512 .bf16)) (B : Rect S3840x512) : (View.whole cc1_scratch0).readCov L B.toLoadRect = View.ld (View.canon L) B :=
    View.readCov_eq_canon' _ _ _
  rw [e1, e1, canon_weights]
  canon_tiles x h
  · refine (congrFun (Chunk.pay1 _ _ _ _ _ _ _) x).trans ?_
    exact chunk_at V c t X U hcodes hscales 1792 (by omega) _ rfl _ _ _ _ _ y x h0 h1
  · refine (congrFun (Chunk.pay27 _ _ _ _ _ _ _) x).trans ?_
    exact chunk_at V c t X U hcodes hscales 1536 (by omega) _ rfl _ _ _ _ _ y x h0 h1
  · refine (congrFun (Chunk.pay24 _ _ _ _ _ _ _) x).trans ?_
    exact chunk_at V c t X U hcodes hscales 1280 (by omega) _ rfl _ _ _ _ _ y x h0 h1
  · refine (congrFun (Chunk.pay23 _ _ _ _ _ _ _) x).trans ?_
    exact chunk_at V c t X U hcodes hscales 1024 (by omega) _ rfl _ _ _ _ _ y x h0 h1
  · refine (congrFun (Chunk.pay22 _ _ _ _ _ _ _) x).trans ?_
    exact chunk_at V c t X U hcodes hscales 768 (by omega) _ rfl _ _ _ _ _ y x h0 h1
  · refine (congrFun (Chunk.pay15 _ _ _ _ _ _ _) x).trans ?_
    exact chunk_at V c t X U hcodes hscales 512 (by omega) _ rfl _ _ _ _ _ y x h0 h1
  · refine (congrFun (Chunk.pay11 _ _ _ _ _ _ _) x).trans ?_
    exact chunk_at V c t X U hcodes hscales 256 (by omega) _ rfl _ _ _ _ _ y x h0 h1
  · exact chunk_at V c t X U hcodes hscales 0 (by omega) _ rfl _ _ _ _ _ y x (by omega) h1

include hcodes hscales in
/-- The block a point leaves when it finds the weights decoded. -/
theorem outB (h3 : ¬ t.val % 3 = 0) (y : S2048x512.Idx) : (outsAt1 V c t.val t.isLt).1 y
    = product X U (V c main_arg2) (V c main_arg4) (V c main_v2) (V c main_v3) (ix2 (rowAt t (y 0)) (colAt t (y 1))) := by
  have hS := scratch_at V c (t.val - 1) (by have := t.isLt; omega)
  have hw := weights_same V c ⟨t.val - 1, by have := t.isLt; omega⟩ t (by show (t.val - 1) / 3 = t.val / 3; omega)
  rw [outsAt1_B V c t h3]
  dsimp only
  rw [hS, hw]
  frame_out
  simp only [read_unread_whole]
  canon_tiles x h
  · refine (congrFun (Chunk.pay1 _ _ _ _ _ _ _) x).trans ?_
    exact chunk_at V c t X U hcodes hscales 1792 (by omega) _ rfl _ _ _ _ _ y x h0 h1
  · refine (congrFun (Chunk.pay27 _ _ _ _ _ _ _) x).trans ?_
    exact chunk_at V c t X U hcodes hscales 1536 (by omega) _ rfl _ _ _ _ _ y x h0 h1
  · refine (congrFun (Chunk.pay24 _ _ _ _ _ _ _) x).trans ?_
    exact chunk_at V c t X U hcodes hscales 1280 (by omega) _ rfl _ _ _ _ _ y x h0 h1
  · refine (congrFun (Chunk.pay23 _ _ _ _ _ _ _) x).trans ?_
    exact chunk_at V c t X U hcodes hscales 1024 (by omega) _ rfl _ _ _ _ _ y x h0 h1
  · refine (congrFun (Chunk.pay22 _ _ _ _ _ _ _) x).trans ?_
    exact chunk_at V c t X U hcodes hscales 768 (by omega) _ rfl _ _ _ _ _ y x h0 h1
  · refine (congrFun (Chunk.pay15 _ _ _ _ _ _ _) x).trans ?_
    exact chunk_at V c t X U hcodes hscales 512 (by omega) _ rfl _ _ _ _ _ y x h0 h1
  · refine (congrFun (Chunk.pay11 _ _ _ _ _ _ _) x).trans ?_
    exact chunk_at V c t X U hcodes hscales 256 (by omega) _ rfl _ _ _ _ _ y x h0 h1
  · exact chunk_at V c t X U hcodes hscales 0 (by omega) _ rfl _ _ _ _ _ y x (by omega) h1

include hcodes hscales in
/-- The array of results. -/
theorem arr6 : (dat1 V c).arrAt 6 cfg1.N = product X U (V c main_arg2) (V c main_arg4) (V c main_v2) (V c main_v3) := by
  refine (dat1 V c).arrAt_eq_of_covers 6 _ (by decide +kernel) fun t _ y => ?_
  blk_simp
  rw [after1_6]
  refine Eq.trans (b := product X U (V c main_arg2) (V c main_arg4) (V c main_v2) (V c main_v3) (ix2 (rowAt t (y 0)) (colAt t (y 1)))) ?_ ?_
  · by_cases h3 : t.val % 3 = 0
    · exact outA V c t X U hcodes hscales h3 y
    · exact outB V c t X U hcodes hscales h3 y
  · generalize product X U (V c main_arg2) (V c main_arg4) (V c main_v2) (V c main_v3) = P
    blk_ext [idx1 t, rowAt, colAt]

end Cert.KernelIdeal.Arrays
-- ==== Proof.Value.Results.lean ====
module

public import proofs.«01_k».proof.Proof.KernelIdeal.Run
public import proofs.«01_k».proof.Proof.Value.Product
public import Idealize.ShloMosaic.Lib.Claim
public import Idealize.ShloMosaic.Lib.Pointwise.Reshape

@[expose] public section

set_option maxRecDepth 16384

noncomputable section

/-! The kernel's five results as terms over its arguments. -/

namespace Cert.KernelIdeal.Arrays

open Cert.KernelIdeal Cert.KernelIdeal.Gen Cert.KernelIdeal.Own
open Idealize.ShloMosaic Idealize.ShloMosaic.TcCoe Idealize.SL.Sem
open Idealize.ShloMosaic.Pipeline (Dat)

/-- The activation as rows. -/
def rows (x : FVec Ideal S24x256x3584 .bf16) : FVec Ideal S6144x3584 .bf16 :=
  shapeCast S6144x3584 x shapeCasts_S24x256x3584_S6144x3584

/-- One scale per column, as a row. -/
def asRow (s : FVec Ideal S9728 .f32) : FVec Ideal S1x9728 .f32 := shapeCast S1x9728 s shapeCasts_S9728_S1x9728

/-- One value per row, back by batch. -/
def byBatch (s : FVec Ideal S6144x1 .f32) : FVec Ideal S24x256 .f32 :=
  shapeCast S24x256 s Cert.ReferenceIdeal.Gen.shapeCasts_S6144x1_S24x256

/-- Lane 0 of the scales is the head's. -/
theorem lane0 (X : FVec Ideal Cert.ReferenceIdeal.S6144x3584 .bf16) (U : FVec Ideal Cert.ReferenceIdeal.S3584x3584 .bf16) :
    extractStridedSlice S6144x1 ![0, 0] (allScales X U) slices_S6144x128_S6144x1_0_0 = Cert.ReferenceIdeal.Gen.k0_pay3 (F := Ideal) X U := by
  funext i
  refine (allScales_at X U _ (i 0) 0 ?_ ?_).trans ((if_pos rfl).trans (congrArg _ ?_))
  · exact Nat.zero_add _
  · have : (i 1).val < 1 := (i 1).isLt
    show 0 + (i 1).val = 0
    omega
  · refine Eq.trans ?_ (eq_ix2 i).symm
    exact congrArg (ix2 (i 0)) (Subsingleton.elim (α := Fin 1) _ _)

/-- Lane 1 of the scales is the other columns'. -/
theorem lane1 (X : FVec Ideal Cert.ReferenceIdeal.S6144x3584 .bf16) (U : FVec Ideal Cert.ReferenceIdeal.S3584x3584 .bf16) :
    extractStridedSlice S6144x1 ![0, 1] (allScales X U) slices_S6144x128_S6144x1_0_1 = Cert.ReferenceIdeal.Gen.k0_pay6 (F := Ideal) X U := by
  funext i
  refine (allScales_at X U _ (i 0) 1 ?_ ?_).trans ((if_neg Nat.one_ne_zero).trans (congrArg _ ?_))
  · exact Nat.zero_add _
  · have : (i 1).val < 1 := (i 1).isLt
    show 1 + (i 1).val = 1
    omega
  · refine Eq.trans ?_ (eq_ix2 i).symm
    exact congrArg (ix2 (i 0)) (Subsingleton.elim (α := Fin 1) _ _)

variable (m : (ℓ : Loc nD τ sig) → Buf (Elt Ideal) ℓ) (ρ : Dev nD → PrngReg) (c : Dev nD)

/-- The first call reads the activation as rows. -/
theorem V1_v0 : V1 m ρ c main_v0 = rows (m ((c : Thread nD τ).loc main_arg0)) := by
  show StableHlo.after hostOps0 (W0 m ρ c) (Proc.devRef .tc main_v0) = _
  after_results
  rfl

theorem V1_arg1 : V1 m ρ c main_arg1 = m ((c : Thread nD τ).loc main_arg1) := W1_args m ρ c main_arg1 (by decide)

theorem W2_v1_0 : W2 m ρ c (Proc.devRef .tc main_v1_0)
    = Cert.ReferenceIdeal.Gen.k0_pay4 (F := Ideal) (rows (m ((c : Thread nD τ).loc main_arg0))) (m ((c : Thread nD τ).loc main_arg1)) :=
  (W2_arr m ρ c 2).trans ((arr2 (V1 m ρ) c).trans (congrArg₂ _ (V1_v0 m ρ c) (V1_arg1 m ρ c)))

theorem W2_v1_1 : W2 m ρ c (Proc.devRef .tc main_v1_1)
    = Cert.ReferenceIdeal.Gen.k0_pay7 (F := Ideal) (rows (m ((c : Thread nD τ).loc main_arg0))) (m ((c : Thread nD τ).loc main_arg1)) :=
  (W2_arr m ρ c 3).trans ((arr3 (V1 m ρ) c).trans (congrArg₂ _ (V1_v0 m ρ c) (V1_arg1 m ρ c)))

theorem W2_v1_2 : W2 m ρ c (Proc.devRef .tc main_v1_2)
    = allCodes (rows (m ((c : Thread nD τ).loc main_arg0))) (m ((c : Thread nD τ).loc main_arg1)) :=
  (W2_arr m ρ c 4).trans ((arr4 (V1 m ρ) c).trans (congrArg₂ _ (V1_v0 m ρ c) (V1_arg1 m ρ c)))

theorem W2_v1_3 : W2 m ρ c (Proc.devRef .tc main_v1_3)
    = allScales (rows (m ((c : Thread nD τ).loc main_arg0))) (m ((c : Thread nD τ).loc main_arg1)) :=
  (W2_arr m ρ c 5).trans ((arr5 (V1 m ρ) c).trans (congrArg₂ _ (V1_v0 m ρ c) (V1_arg1 m ρ c)))

/-- The second call reads the scales of the weights as rows. -/
theorem V3_v2 : V3 m ρ c main_v2 = asRow (m ((c : Thread nD τ).loc main_arg3)) := by
  refine Eq.trans (b := asRow (W2 m ρ c (Proc.devRef .tc main_arg3))) ?_ (congrArg asRow (W2_args m ρ c main_arg3 (by decide)))
  show StableHlo.after hostOps1 (W2 m ρ c) (Proc.devRef .tc main_v2) = _
  after_results
  rfl

theorem V3_v3 : V3 m ρ c main_v3 = asRow (m ((c : Thread nD τ).loc main_arg5)) := by
  refine Eq.trans (b := asRow (W2 m ρ c (Proc.devRef .tc main_arg5))) ?_ (congrArg asRow (W2_args m ρ c main_arg5 (by decide)))
  show StableHlo.after hostOps1 (W2 m ρ c) (Proc.devRef .tc main_v3) = _
  after_results
  rfl

/-- What the second call leaves. -/
theorem W4_v4 : W4 m ρ c (Proc.devRef .tc main_v4)
    = product (rows (m ((c : Thread nD τ).loc main_arg0))) (m ((c : Thread nD τ).loc main_arg1)) (m ((c : Thread nD τ).loc main_arg2))
        (m ((c : Thread nD τ).loc main_arg4)) (asRow (m ((c : Thread nD τ).loc main_arg3))) (asRow (m ((c : Thread nD τ).loc main_arg5))) := by
  refine (W4_arr m ρ c 6).trans ((arr6 (V3 m ρ) c (rows (m ((c : Thread nD τ).loc main_arg0))) (m ((c : Thread nD τ).loc main_arg1))
    ((W3_of m ρ c main_v1_2 (by decide)).trans (W2_v1_2 m ρ c)) ((W3_of m ρ c main_v1_3 (by decide)).trans (W2_v1_3 m ρ c))).trans ?_)
  rw [V3_v2, V3_v3]
  exact congrArg₂ (fun a b => product _ _ a b _ _) (W3_args m ρ c main_arg2 (by decide)) (W3_args m ρ c main_arg4 (by decide))

theorem W4_v1_0 : W4 m ρ c (Proc.devRef .tc main_v1_0)
    = Cert.ReferenceIdeal.Gen.k0_pay4 (F := Ideal) (rows (m ((c : Thread nD τ).loc main_arg0))) (m ((c : Thread nD τ).loc main_arg1)) :=
  (W4_of m ρ c main_v1_0 (by decide)).trans ((W3_of m ρ c main_v1_0 (by decide)).trans (W2_v1_0 m ρ c))

theorem W4_v1_1 : W4 m ρ c (Proc.devRef .tc main_v1_1)
    = Cert.ReferenceIdeal.Gen.k0_pay7 (F := Ideal) (rows (m ((c : Thread nD τ).loc main_arg0))) (m ((c : Thread nD τ).loc main_arg1)) :=
  (W4_of m ρ c main_v1_1 (by decide)).trans ((W3_of m ρ c main_v1_1 (by decide)).trans (W2_v1_1 m ρ c))

theorem W4_v1_3 : W4 m ρ c (Proc.devRef .tc main_v1_3)
    = allScales (rows (m ((c : Thread nD τ).loc main_arg0))) (m ((c : Thread nD τ).loc main_arg1)) :=
  (W4_of m ρ c main_v1_3 (by decide)).trans ((W3_of m ρ c main_v1_3 (by decide)).trans (W2_v1_3 m ρ c))

/-- The result `y`. -/
theorem W5_v5 : W5 m ρ c (Proc.devRef .tc main_v5) = shapeCast S24x256x9728 (product (rows (m ((c : Thread nD τ).loc main_arg0)))
      (m ((c : Thread nD τ).loc main_arg1)) (m ((c : Thread nD τ).loc main_arg2)) (m ((c : Thread nD τ).loc main_arg4))
      (asRow (m ((c : Thread nD τ).loc main_arg3))) (asRow (m ((c : Thread nD τ).loc main_arg5)))) shapeCasts_S6144x9728_S24x256x9728 := by
  rw [← W4_v4 m ρ c]
  show StableHlo.after hostOps2 (W4 m ρ c) (Proc.devRef .tc main_v5) = _
  after_results
  rfl

/-- The codes of the head. -/
theorem W5_v6 : W5 m ρ c (Proc.devRef .tc main_v6) = shapeCast S24x256x448 (Cert.ReferenceIdeal.Gen.k0_pay4 (F := Ideal)
      (rows (m ((c : Thread nD τ).loc main_arg0))) (m ((c : Thread nD τ).loc main_arg1))) shapeCasts_S6144x448_S24x256x448 := by
  rw [← W4_v1_0 m ρ c]
  show StableHlo.after hostOps2 (W4 m ρ c) (Proc.devRef .tc main_v6) = _
  after_results
  rfl

/-- The codes of the other columns. -/
theorem W5_v10 : W5 m ρ c (Proc.devRef .tc main_v10) = shapeCast S24x256x3136 (Cert.ReferenceIdeal.Gen.k0_pay7 (F := Ideal)
      (rows (m ((c : Thread nD τ).loc main_arg0))) (m ((c : Thread nD τ).loc main_arg1))) shapeCasts_S6144x3136_S24x256x3136 := by
  rw [← W4_v1_1 m ρ c]
  show StableHlo.after hostOps2 (W4 m ρ c) (Proc.devRef .tc main_v10) = _
  after_results
  rfl

/-- The scales of the head. -/
theorem W5_v9 : W5 m ρ c (Proc.devRef .tc main_v9) = byBatch (Cert.ReferenceIdeal.Gen.k0_pay3 (F := Ideal)
      (rows (m ((c : Thread nD τ).loc main_arg0))) (m ((c : Thread nD τ).loc main_arg1))) := by
  rw [← lane0, ← W4_v1_3 m ρ c]
  show StableHlo.after hostOps2 (W4 m ρ c) (Proc.devRef .tc main_v9) = _
  after_results
  exact shapeCast_comp _ _ _

/-- The scales of the other columns. -/
theorem W5_v13 : W5 m ρ c (Proc.devRef .tc main_v13) = byBatch (Cert.ReferenceIdeal.Gen.k0_pay6 (F := Ideal)
      (rows (m ((c : Thread nD τ).loc main_arg0))) (m ((c : Thread nD τ).loc main_arg1))) := by
  rw [← lane1, ← W4_v1_3 m ρ c]
  show StableHlo.after hostOps2 (W4 m ρ c) (Proc.devRef .tc main_v13) = _
  after_results
  exact shapeCast_comp _ _ _

/-- The run leaves the five results and keeps the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = shapeCast S24x256x9728 (product (rows (m ((c : Thread nD τ).loc main_arg0))) (m ((c : Thread nD τ).loc main_arg1)) (m ((c : Thread nD τ).loc main_arg2)) (m ((c : Thread nD τ).loc main_arg4)) (asRow (m ((c : Thread nD τ).loc main_arg3))) (asRow (m ((c : Thread nD τ).loc main_arg5)))) shapeCasts_S6144x9728_S24x256x9728
      ∧ r.2.mem ((c.tc : Thread nD τ).loc main_v6) = shapeCast S24x256x448 (Cert.ReferenceIdeal.Gen.k0_pay4 (F := Ideal) (rows (m ((c : Thread nD τ).loc main_arg0))) (m ((c : Thread nD τ).loc main_arg1))) shapeCasts_S6144x448_S24x256x448
      ∧ r.2.mem ((c.tc : Thread nD τ).loc main_v9) = byBatch (Cert.ReferenceIdeal.Gen.k0_pay3 (F := Ideal) (rows (m ((c : Thread nD τ).loc main_arg0))) (m ((c : Thread nD τ).loc main_arg1)))
      ∧ r.2.mem ((c.tc : Thread nD τ).loc main_v10) = shapeCast S24x256x3136 (Cert.ReferenceIdeal.Gen.k0_pay7 (F := Ideal) (rows (m ((c : Thread nD τ).loc main_arg0))) (m ((c : Thread nD τ).loc main_arg1))) shapeCasts_S6144x3136_S24x256x3136
      ∧ r.2.mem ((c.tc : Thread nD τ).loc main_v13) = byBatch (Cert.ReferenceIdeal.Gen.k0_pay6 (F := Ideal) (rows (m ((c : Thread nD τ).loc main_arg0))) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c _ (mem_uc main_v5 (by decide))).trans (W5_v5 m ρ c),
    (h.1 c _ (mem_uc main_v6 (by decide))).trans (W5_v6 m ρ c),
    (h.1 c _ (mem_uc main_v9 (by decide))).trans (W5_v9 m ρ c),
    (h.1 c _ (mem_uc main_v10 (by decide))).trans (W5_v10 m ρ c),
    (h.1 c _ (mem_uc main_v13 (by decide))).trans (W5_v13 m ρ c),
    (h.1 c _ (mem_uc main_arg0 (by decide))).trans (W5_main_arg0 m ρ c),
    (h.1 c _ (mem_uc main_arg1 (by decide))).trans (W5_main_arg1 m ρ c),
    (h.1 c _ (mem_uc main_arg2 (by decide))).trans (W5_main_arg2 m ρ c),
    (h.1 c _ (mem_uc main_arg3 (by decide))).trans (W5_main_arg3 m ρ c),
    (h.1 c _ (mem_uc main_arg4 (by decide))).trans (W5_main_arg4 m ρ c),
    (h.1 c _ (mem_uc main_arg5 (by decide))).trans (W5_main_arg5 m ρ c)⟩) (run_main m ρ)

end Cert.KernelIdeal.Arrays
-- ==== Proof.Value.Reference.lean ====
module

public import proofs.«01_k».proof.Proof.Gen.ReferenceIdeal.Frame
public import Idealize.ShloMosaic.Lib.Claim
public import Idealize.ShloMosaic.Lib.Pipeline.ValueKit

@[expose] public section

set_option maxRecDepth 16384

noncomputable section

/-! The reference's five results as terms over its arguments: its one grid point computes each array whole. -/

namespace Cert.ReferenceIdeal.Arrays

open Cert.ReferenceIdeal Cert.ReferenceIdeal.Gen
open Idealize.ShloMosaic Idealize.ShloMosaic.TcCoe Idealize.SL.Sem
open Idealize.ShloMosaic.Pipeline (Dat)

/-- The activation as rows. -/
def rows (x : FVec Ideal S24x256x3584 .bf16) : FVec Ideal S6144x3584 .bf16 :=
  shapeCast S6144x3584 x shapeCasts_S24x256x3584_S6144x3584

/-- One scale per column, as a row. -/
def asRow (s : FVec Ideal S9728 .f32) : FVec Ideal S1x9728 .f32 := shapeCast S1x9728 s shapeCasts_S9728_S1x9728

variable (m : (ℓ : Loc nD τ sig) → Buf (Elt Ideal) ℓ) (ρ : Dev nD → PrngReg) (c : Dev nD)

/-- The block of input 0 is the array. -/
theorem iblk0 : iblk m c 0 t0_0 = V m c main_v0 := by
  funext j
  refine congrArg (V m c main_v0) (funext fun a => Fin.ext ?_)
  show 0 * (cfg0.win 0).size a + 1 * (j a).val = (j a).val
  rw [Nat.zero_mul, Nat.zero_add, Nat.one_mul]

/-- The block of input 1 is the array. -/
theorem iblk1 : iblk m c 1 t0_0 = V m c main_arg1 := by
  funext j
  refine congrArg (V m c main_arg1) (funext fun a => Fin.ext ?_)
  show 0 * (cfg0.win 1).size a + 1 * (j a).val = (j a).val
  rw [Nat.zero_mul, Nat.zero_add, Nat.one_mul]

/-- The block of input 2 is the array. -/
theorem iblk2 : iblk m c 2 t0_0 = V m c main_arg2 := by
  funext j
  refine congrArg (V m c main_arg2) (funext fun a => Fin.ext ?_)
  show 0 * (cfg0.win 2).size a + 1 * (j a).val = (j a).val
  rw [Nat.zero_mul, Nat.zero_add, Nat.one_mul]

/-- The block of input 3 is the array. -/
theorem iblk3 : iblk m c 3 t0_0 = V m c main_v1 := by
  funext j
  refine congrArg (V m c main_v1) (funext fun a => Fin.ext ?_)
  show 0 * (cfg0.win 3).size a + 1 * (j a).val = (j a).val
  rw [Nat.zero_mul, Nat.zero_add, Nat.one_mul]

/-- The block of input 4 is the array. -/
theorem iblk4 : iblk m c 4 t0_0 = V m c main_arg4 := by
  funext j
  refine congrArg (V m c main_arg4) (funext fun a => Fin.ext ?_)
  show 0 * (cfg0.win 4).size a + 1 * (j a).val = (j a).val
  rw [Nat.zero_mul, Nat.zero_add, Nat.one_mul]

/-- The block of input 5 is the array. -/
theorem iblk5 : iblk m c 5 t0_0 = V m c main_v2 := by
  funext j
  refine congrArg (V m c main_v2) (funext fun a => Fin.ext ?_)
  show 0 * (cfg0.win 5).size a + 1 * (j a).val = (j a).val
  rw [Nat.zero_mul, Nat.zero_add, Nat.one_mul]

theorem V_v0 : V m c main_v0 = rows (m ((c : Thread nD τ).loc main_arg0)) := by
  entry_read
  all_goals rfl

theorem V_v1 : V m c main_v1 = asRow (m ((c : Thread nD τ).loc main_arg3)) := by
  entry_read
  all_goals rfl

theorem V_v2 : V m c main_v2 = asRow (m ((c : Thread nD τ).loc main_arg5)) := by
  entry_read
  all_goals rfl

theorem arr6 : (dats m 0 c).arrAt 6 cfg0.N = k0_pay9 (F := Ideal) (k0_pay3 (F := Ideal) (rows (m ((c : Thread nD τ).loc main_arg0))) (m ((c : Thread nD τ).loc main_arg1))) (k0_pay6 (F := Ideal) (rows (m ((c : Thread nD τ).loc main_arg0))) (m ((c : Thread nD τ).loc main_arg1))) (k0_pay7 (F := Ideal) (rows (m ((c : Thread nD τ).loc main_arg0))) (m ((c : Thread nD τ).loc main_arg1))) (k0_pay8 (F := Ideal) (rows (m ((c : Thread nD τ).loc main_arg0))) (m ((c : Thread nD τ).loc main_arg1))) (m ((c : Thread nD τ).loc main_arg2)) (m ((c : Thread nD τ).loc main_arg4)) (asRow (m ((c : Thread nD τ).loc main_arg3))) (asRow (m ((c : Thread nD τ).loc main_arg5))) := by
  refine (dats m 0 c).arrAt_eq_of_after_last 6 t0_0 (by decide +kernel) _ fun j => ?_
  blk_simp
  rw [after0_6]
  unfold_out out0_6
  frame_out
  rw [iblk0, iblk1, iblk2, iblk3, iblk4, iblk5, V_v0, V_v1, V_v2, V_main_arg1, V_main_arg2, V_main_arg4]

theorem arr7 : (dats m 0 c).arrAt 7 cfg0.N = k0_pay4 (F := Ideal) (rows (m ((c : Thread nD τ).loc main_arg0))) (m ((c : Thread nD τ).loc main_arg1)) := by
  refine (dats m 0 c).arrAt_eq_of_after_last 7 t0_0 (by decide +kernel) _ fun j => ?_
  blk_simp
  rw [after0_7]
  frame_out
  rw [iblk0, iblk1, V_v0, V_main_arg1]

theorem arr8 : (dats m 0 c).arrAt 8 cfg0.N = k0_pay3 (F := Ideal) (rows (m ((c : Thread nD τ).loc main_arg0))) (m ((c : Thread nD τ).loc main_arg1)) := by
  refine (dats m 0 c).arrAt_eq_of_after_last 8 t0_0 (by decide +kernel) _ fun j => ?_
  blk_simp
  rw [after0_8]
  unfold_out out0_8
  frame_out
  rw [iblk0, iblk1, V_v0, V_main_arg1]

theorem arr9 : (dats m 0 c).arrAt 9 cfg0.N = k0_pay7 (F := Ideal) (rows (m ((c : Thread nD τ).loc main_arg0))) (m ((c : Thread nD τ).loc main_arg1)) := by
  refine (dats m 0 c).arrAt_eq_of_after_last 9 t0_0 (by decide +kernel) _ fun j => ?_
  blk_simp
  rw [after0_9]
  unfold_out out0_9
  frame_out
  rw [iblk0, iblk1, V_v0, V_main_arg1]

theorem arr10 : (dats m 0 c).arrAt 10 cfg0.N = k0_pay6 (F := Ideal) (rows (m ((c : Thread nD τ).loc main_arg0))) (m ((c : Thread nD τ).loc main_arg1)) := by
  refine (dats m 0 c).arrAt_eq_of_after_last 10 t0_0 (by decide +kernel) _ fun j => ?_
  blk_simp
  rw [after0_10]
  unfold_out out0_10
  frame_out
  rw [iblk0, iblk1, V_v0, V_main_arg1]

theorem tail_v4 : Pipeline.afterTail₀ cfgs (dats m) 0 (V0 m) [hostOps1] c main_v4 = shapeCast S24x256x9728 (k0_pay9 (F := Ideal) (k0_pay3 (F := Ideal) (rows (m ((c : Thread nD τ).loc main_arg0))) (m ((c : Thread nD τ).loc main_arg1))) (k0_pay6 (F := Ideal) (rows (m ((c : Thread nD τ).loc main_arg0))) (m ((c : Thread nD τ).loc main_arg1))) (k0_pay7 (F := Ideal) (rows (m ((c : Thread nD τ).loc main_arg0))) (m ((c : Thread nD τ).loc main_arg1))) (k0_pay8 (F := Ideal) (rows (m ((c : Thread nD τ).loc main_arg0))) (m ((c : Thread nD τ).loc main_arg1))) (m ((c : Thread nD τ).loc main_arg2)) (m ((c : Thread nD τ).loc main_arg4)) (asRow (m ((c : Thread nD τ).loc main_arg3))) (asRow (m ((c : Thread nD τ).loc main_arg5)))) shapeCasts_S6144x9728_S24x256x9728 := by
  rw [← arr6 m c]
  unfold Pipeline.afterTail₀
  refine Eq.trans (b := shapeCast S24x256x9728 (Pipeline.withArrays spec0 c (V0 m c) (fun w => (dats m 0 c).arrAt w cfg0.N) (Proc.devRef .tc main_v3_0)) shapeCasts_S6144x9728_S24x256x9728) ?_
    (congrArg (shapeCast S24x256x9728 · shapeCasts_S6144x9728_S24x256x9728) (Pipeline.withArrays_arr spec0 (by decide) c (V0 m c) (fun w => (dats m 0 c).arrAt w cfg0.N) 6))
  show StableHlo.after hostOps1 _ (Proc.devRef .tc main_v4) = _
  after_results
  rfl

theorem tail_v5 : Pipeline.afterTail₀ cfgs (dats m) 0 (V0 m) [hostOps1] c main_v5 = shapeCast S24x256x448 (k0_pay4 (F := Ideal) (rows (m ((c : Thread nD τ).loc main_arg0))) (m ((c : Thread nD τ).loc main_arg1))) shapeCasts_S6144x448_S24x256x448 := by
  rw [← arr7 m c]
  unfold Pipeline.afterTail₀
  refine Eq.trans (b := shapeCast S24x256x448 (Pipeline.withArrays spec0 c (V0 m c) (fun w => (dats m 0 c).arrAt w cfg0.N) (Proc.devRef .tc main_v3_1)) shapeCasts_S6144x448_S24x256x448) ?_
    (congrArg (shapeCast S24x256x448 · shapeCasts_S6144x448_S24x256x448) (Pipeline.withArrays_arr spec0 (by decide) c (V0 m c) (fun w => (dats m 0 c).arrAt w cfg0.N) 7))
  show StableHlo.after hostOps1 _ (Proc.devRef .tc main_v5) = _
  after_results
  rfl

theorem tail_v6 : Pipeline.afterTail₀ cfgs (dats m) 0 (V0 m) [hostOps1] c main_v6 = shapeCast S24x256 (k0_pay3 (F := Ideal) (rows (m ((c : Thread nD τ).loc main_arg0))) (m ((c : Thread nD τ).loc main_arg1))) shapeCasts_S6144x1_S24x256 := by
  rw [← arr8 m c]
  unfold Pipeline.afterTail₀
  refine Eq.trans (b := shapeCast S24x256 (Pipeline.withArrays spec0 c (V0 m c) (fun w => (dats m 0 c).arrAt w cfg0.N) (Proc.devRef .tc main_v3_2)) shapeCasts_S6144x1_S24x256) ?_
    (congrArg (shapeCast S24x256 · shapeCasts_S6144x1_S24x256) (Pipeline.withArrays_arr spec0 (by decide) c (V0 m c) (fun w => (dats m 0 c).arrAt w cfg0.N) 8))
  show StableHlo.after hostOps1 _ (Proc.devRef .tc main_v6) = _
  after_results
  rfl

theorem tail_v7 : Pipeline.afterTail₀ cfgs (dats m) 0 (V0 m) [hostOps1] c main_v7 = shapeCast S24x256x3136 (k0_pay7 (F := Ideal) (rows (m ((c : Thread nD τ).loc main_arg0))) (m ((c : Thread nD τ).loc main_arg1))) shapeCasts_S6144x3136_S24x256x3136 := by
  rw [← arr9 m c]
  unfold Pipeline.afterTail₀
  refine Eq.trans (b := shapeCast S24x256x3136 (Pipeline.withArrays spec0 c (V0 m c) (fun w => (dats m 0 c).arrAt w cfg0.N) (Proc.devRef .tc main_v3_3)) shapeCasts_S6144x3136_S24x256x3136) ?_
    (congrArg (shapeCast S24x256x3136 · shapeCasts_S6144x3136_S24x256x3136) (Pipeline.withArrays_arr spec0 (by decide) c (V0 m c) (fun w => (dats m 0 c).arrAt w cfg0.N) 9))
  show StableHlo.after hostOps1 _ (Proc.devRef .tc main_v7) = _
  after_results
  rfl

theorem tail_v8 : Pipeline.afterTail₀ cfgs (dats m) 0 (V0 m) [hostOps1] c main_v8 = shapeCast S24x256 (k0_pay6 (F := Ideal) (rows (m ((c : Thread nD τ).loc main_arg0))) (m ((c : Thread nD τ).loc main_arg1))) shapeCasts_S6144x1_S24x256 := by
  rw [← arr10 m c]
  unfold Pipeline.afterTail₀
  refine Eq.trans (b := shapeCast S24x256 (Pipeline.withArrays spec0 c (V0 m c) (fun w => (dats m 0 c).arrAt w cfg0.N) (Proc.devRef .tc main_v3_4)) shapeCasts_S6144x1_S24x256) ?_
    (congrArg (shapeCast S24x256 · shapeCasts_S6144x1_S24x256) (Pipeline.withArrays_arr spec0 (by decide) c (V0 m c) (fun w => (dats m 0 c).arrAt w cfg0.N) 10))
  show StableHlo.after hostOps1 _ (Proc.devRef .tc main_v8) = _
  after_results
  rfl

theorem run : θ_run defs (onTc (τ := τ) (main (F := Ideal))) ⟨m, fun _ => 0, ρ⟩ (fun r => ∀ c : Dev nD,
      r.2.mem ((c.tc : Thread nD τ).loc main_v4) = shapeCast S24x256x9728 (k0_pay9 (F := Ideal) (k0_pay3 (F := Ideal) (rows (m ((c : Thread nD τ).loc main_arg0))) (m ((c : Thread nD τ).loc main_arg1))) (k0_pay6 (F := Ideal) (rows (m ((c : Thread nD τ).loc main_arg0))) (m ((c : Thread nD τ).loc main_arg1))) (k0_pay7 (F := Ideal) (rows (m ((c : Thread nD τ).loc main_arg0))) (m ((c : Thread nD τ).loc main_arg1))) (k0_pay8 (F := Ideal) (rows (m ((c : Thread nD τ).loc main_arg0))) (m ((c : Thread nD τ).loc main_arg1))) (m ((c : Thread nD τ).loc main_arg2)) (m ((c : Thread nD τ).loc main_arg4)) (asRow (m ((c : Thread nD τ).loc main_arg3))) (asRow (m ((c : Thread nD τ).loc main_arg5)))) shapeCasts_S6144x9728_S24x256x9728
      ∧ r.2.mem ((c.tc : Thread nD τ).loc main_v5) = shapeCast S24x256x448 (k0_pay4 (F := Ideal) (rows (m ((c : Thread nD τ).loc main_arg0))) (m ((c : Thread nD τ).loc main_arg1))) shapeCasts_S6144x448_S24x256x448
      ∧ r.2.mem ((c.tc : Thread nD τ).loc main_v6) = shapeCast S24x256 (k0_pay3 (F := Ideal) (rows (m ((c : Thread nD τ).loc main_arg0))) (m ((c : Thread nD τ).loc main_arg1))) shapeCasts_S6144x1_S24x256
      ∧ r.2.mem ((c.tc : Thread nD τ).loc main_v7) = shapeCast S24x256x3136 (k0_pay7 (F := Ideal) (rows (m ((c : Thread nD τ).loc main_arg0))) (m ((c : Thread nD τ).loc main_arg1))) shapeCasts_S6144x3136_S24x256x3136
      ∧ r.2.mem ((c.tc : Thread nD τ).loc main_v8) = shapeCast S24x256 (k0_pay6 (F := Ideal) (rows (m ((c : Thread nD τ).loc main_arg0))) (m ((c : Thread nD τ).loc main_arg1))) shapeCasts_S6144x1_S24x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ
  · exact tail_v4 m c
  · exact tail_v5 m c
  · exact tail_v6 m c
  · exact tail_v7 m c
  · exact tail_v8 m c
  · exact W_main_arg0 m (dats m) c
  · exact W_main_arg3 m (dats m) c
  · exact W_main_arg5 m (dats m) c

end Cert.ReferenceIdeal.Arrays
-- ==== Proof.Value.Meet.lean ====
module

public import proofs.«01_k».proof.Defs
public import proofs.«01_k».proof.Proof.Value.Results
public import proofs.«01_k».proof.Proof.Value.Reference
public import Idealize.ShloMosaic.Lib.Claim

@[expose] public section

set_option maxRecDepth 16384

noncomputable section

/-! The kernel and the reference leave the same five results over the real numbers. -/

namespace Cert.Meet

open Idealize.ShloMosaic Idealize.ShloMosaic.TcCoe Idealize.SL.Sem

/-- From memories that agree on the arguments, both runs leave the same five results. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, _, _, _, Cert.KernelIdeal.Arrays.run m g, ?_⟩
  refine (θ_run _ _ _).mono (fun r h c => ?_) (Cert.ReferenceIdeal.Arrays.run m' g')
  obtain ⟨a0, a1, a2, a3, a4, a5⟩ := hagree c
  obtain ⟨h4, h5, h6, h7, h8, hargs⟩ := h c
  rw [a0, a1] at h4 h5 h6 h7 h8
  rw [a2, a3, a4, a5] at h4
  exact ⟨h4, h5, h6, h7, h8, hargs⟩

end Cert.Meet
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

public import proofs.«01_k».proof.Proof.Kernel.Run
public import proofs.«01_k».proof.Proof.KernelIdeal.Run
public import proofs.«01_k».proof.Proof.Value.Meet

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ,
  fun m ρ _ => Cert.ReferenceIdeal.Gen.frame m ρ, trivial, Cert.Meet.algebraic⟩

end Cert.Proof

end
